-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x26 : Shape := ⟨2, ![16384, 26]⟩
abbrev S26x20x32 : Shape := ⟨3, ![26, 20, 32]⟩
abbrev S832x416 : Shape := ⟨2, ![832, 416]⟩
abbrev S416 : Shape := ⟨1, ![416]⟩
abbrev S416x128 : Shape := ⟨2, ![416, 128]⟩
abbrev S128 : Shape := ⟨1, ![128]⟩
abbrev S520x32 : Shape := ⟨2, ![520, 32]⟩
abbrev S_ : Shape := ⟨0, ![]⟩
abbrev S20 : Shape := ⟨1, ![20]⟩
abbrev S1 : Shape := ⟨1, ![1]⟩
abbrev S21 : Shape := ⟨1, ![21]⟩
abbrev S1x21 : Shape := ⟨2, ![1, 21]⟩
abbrev S1x416 : Shape := ⟨2, ![1, 416]⟩
abbrev S1x128 : Shape := ⟨2, ![1, 128]⟩
abbrev S2x26 : Shape := ⟨2, ![2, 26]⟩
abbrev S4096x26 : Shape := ⟨2, ![4096, 26]⟩
abbrev S26 : Shape := ⟨1, ![26]⟩
abbrev S1x26 : Shape := ⟨2, ![1, 26]⟩
abbrev S16384x128 : Shape := ⟨2, ![16384, 128]⟩
abbrev S4096x128 : Shape := ⟨2, ![4096, 128]⟩
abbrev S26x520 : Shape := ⟨2, ![26, 520]⟩
abbrev S520x416 : Shape := ⟨2, ![520, 416]⟩
abbrev S32x832 : Shape := ⟨2, ![32, 832]⟩
abbrev S520x832 : Shape := ⟨2, ![520, 832]⟩
abbrev S1x1 : Shape := ⟨2, ![1, 1]⟩
abbrev S4096x520 : Shape := ⟨2, ![4096, 520]⟩
abbrev S1x520 : Shape := ⟨2, ![1, 520]⟩
abbrev S4096x416 : Shape := ⟨2, ![4096, 416]⟩

abbrev nBuf : Space → Nat
  | .hbm => 35
  | .vmem => 16
  | .smem => 0
  | _ => 0

abbrev bufTy : (tb : Table) → Fin (tcTables nBuf tb) → BufTy
  | .hbm, ⟨0, _⟩ => ⟨S16384x26, .f32⟩
  | .hbm, ⟨1, _⟩ => ⟨S26x20x32, .f32⟩
  | .hbm, ⟨2, _⟩ => ⟨S832x416, .f32⟩
  | .hbm, ⟨3, _⟩ => ⟨S416, .f32⟩
  | .hbm, ⟨4, _⟩ => ⟨S416x128, .f32⟩
  | .hbm, ⟨5, _⟩ => ⟨S128, .f32⟩
  | .hbm, ⟨6, _⟩ => ⟨S520x32, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S20, .f32⟩
  | .hbm, ⟨15, _⟩ => ⟨S_, .f32⟩
  | .hbm, ⟨16, _⟩ => ⟨S20, .f32⟩
  | .hbm, ⟨17, _⟩ => ⟨S20, .f32⟩
  | .hbm, ⟨18, _⟩ => ⟨S1, .f32⟩
  | .hbm, ⟨19, _⟩ => ⟨S_, .f32⟩
  | .hbm, ⟨20, _⟩ => ⟨S20, .f32⟩
  | .hbm, ⟨21, _⟩ => ⟨S20, .f32⟩
  | .hbm, ⟨22, _⟩ => ⟨S20, .f32⟩
  | .hbm, ⟨23, _⟩ => ⟨S20, .f32⟩
  | .hbm, ⟨24, _⟩ => ⟨S1, .f32⟩
  | .hbm, ⟨25, _⟩ => ⟨S20, .f32⟩
  | .hbm, ⟨26, _⟩ => ⟨S20, .f32⟩
  | .hbm, ⟨27, _⟩ => ⟨S20, .f32⟩
  | .hbm, ⟨28, _⟩ => ⟨S1, .f32⟩
  | .hbm, ⟨29, _⟩ => ⟨S21, .f32⟩
  | .hbm, ⟨30, _⟩ => ⟨S1x21, .f32⟩
  | .hbm, ⟨31, _⟩ => ⟨S1x416, .f32⟩
  | .hbm, ⟨32, _⟩ => ⟨S1x128, .f32⟩
  | .hbm, ⟨33, _⟩ => ⟨S2x26, .f32⟩
  | .hbm, ⟨34, _⟩ => ⟨S16384x128, .f32⟩
  | .local _ .vmem, ⟨0, _⟩ => ⟨S4096x26, .f32⟩
  | .local _ .vmem, ⟨1, _⟩ => ⟨S4096x26, .f32⟩
  | .local _ .vmem, ⟨2, _⟩ => ⟨S2x26, .f32⟩
  | .local _ .vmem, ⟨3, _⟩ => ⟨S1x21, .f32⟩
  | .local _ .vmem, ⟨4, _⟩ => ⟨S2x26, .f32⟩
  | .local _ .vmem, ⟨5, _⟩ => ⟨S4096x26, .f32⟩
  | .local _ .vmem, ⟨6, _⟩ => ⟨S4096x26, .f32⟩
  | .local _ .vmem, ⟨7, _⟩ => ⟨S520x32, .f32⟩
  | .local _ .vmem, ⟨8, _⟩ => ⟨S832x416, .f32⟩
  | .local _ .vmem, ⟨9, _⟩ => ⟨S1x416, .f32⟩
  | .local _ .vmem, ⟨10, _⟩ => ⟨S416x128, .f32⟩
  | .local _ .vmem, ⟨11, _⟩ => ⟨S1x128, .f32⟩
  | .local _ .vmem, ⟨12, _⟩ => ⟨S4096x128, .f32⟩
  | .local _ .vmem, ⟨13, _⟩ => ⟨S4096x128, .f32⟩
  | .local _ .vmem, ⟨14, _⟩ => ⟨S26x520, .bf16⟩
  | .local _ .vmem, ⟨15, _⟩ => ⟨S520x416, .bf16⟩
  | _, _ => ⟨S16384x26, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_cst : Ref sig .tc := ⟨.hbm, 12, rfl⟩
abbrev main_call0_v3 : Ref sig .tc := ⟨.hbm, 13, rfl⟩
abbrev main_call0_v4 : Ref sig .tc := ⟨.hbm, 14, rfl⟩
abbrev main_call0_cst_0 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_cst_1 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg2_1 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg8_0 : Ref sig .tc := ⟨.vmem, 12, rfl⟩
abbrev cc1_stg8_1 : Ref sig .tc := ⟨.vmem, 13, rfl⟩
abbrev cc1_scratch0 : Ref sig .tc := ⟨.vmem, 14, rfl⟩
abbrev cc1_scratch1 : Ref sig .tc := ⟨.vmem, 15, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem2_0 : DmaSem sig := 5
abbrev cc1_sem2_1 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11
abbrev cc1_sem8_0 : DmaSem sig := 12
abbrev cc1_sem8_1 : DmaSem sig := 13

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v8 : BitVec 1 := Scalar.cmpi .eq arg0 c0_i32
  let v9 : BitVec 32 := Scalar.extui v8
  let c0_i32_3 : BitVec 32 := 0#32
  let v10 : BitVec 1 := Scalar.cmpi .ne v9 c0_i32_3
  v10

def k0_cond2 (i : grid0.Coords) : BitVec 1 :=
  let arg0 : BitVec 32 := BitVec.ofNat 32 (i 0).val
  let c0_i32_4 : BitVec 32 := 0#32
  let v11 : BitVec 1 := Scalar.cmpi .ne arg0 c0_i32_4
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x26 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x26 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1x21 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2x26 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096x26 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S520x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S832x416 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x416 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S416x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S4096x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== KernelIdeal.lean ====
variable {F : FTy → Type} [FloatOps F] [Named F]
def κ : String → Option EReal := fun
  | "inv_sqrt2" => some (((Real.sqrt 2)⁻¹ : ℝ) : EReal)
  | _ => none
-- ==== ReferenceIdeal.lean ====
abbrev S16384x26 : Shape := ⟨2, ![16384, 26]⟩
abbrev S26x20x32 : Shape := ⟨3, ![26, 20, 32]⟩
abbrev S832x416 : Shape := ⟨2, ![832, 416]⟩
abbrev S416 : Shape := ⟨1, ![416]⟩
abbrev S416x128 : Shape := ⟨2, ![416, 128]⟩
abbrev S128 : Shape := ⟨1, ![128]⟩
abbrev S_ : Shape := ⟨0, ![]⟩
abbrev S26 : Shape := ⟨1, ![26]⟩
abbrev S20 : Shape := ⟨1, ![20]⟩
abbrev S1 : Shape := ⟨1, ![1]⟩
abbrev S21 : Shape := ⟨1, ![21]⟩
abbrev S26x1 : Shape := ⟨2, ![26, 1]⟩
abbrev S1x21 : Shape := ⟨2, ![1, 21]⟩
abbrev S26x21 : Shape := ⟨2, ![26, 21]⟩
abbrev S1x26x21 : Shape := ⟨3, ![1, 26, 21]⟩
abbrev S16384x26x1 : Shape := ⟨3, ![16384, 26, 1]⟩
abbrev S16384x26x21 : Shape := ⟨3, ![16384, 26, 21]⟩
abbrev S1x26 : Shape := ⟨2, ![1, 26]⟩
abbrev S16384x26x2 : Shape := ⟨3, ![16384, 26, 2]⟩
abbrev S16384x26x32 : Shape := ⟨3, ![16384, 26, 32]⟩
abbrev S16384x832 : Shape := ⟨2, ![16384, 832]⟩
abbrev S16384x416 : Shape := ⟨2, ![16384, 416]⟩
abbrev S1x416 : Shape := ⟨2, ![1, 416]⟩
abbrev S16384x128 : Shape := ⟨2, ![16384, 128]⟩
abbrev S1x128 : Shape := ⟨2, ![1, 128]⟩

abbrev nBuf : Space → Nat
  | .hbm => 115
  | .vmem => 0
  | .smem => 0
  | _ => 0

abbrev bufTy : (tb : Table) → Fin (tcTables nBuf tb) → BufTy
  | .hbm, ⟨0, _⟩ => ⟨S16384x26, .f32⟩
  | .hbm, ⟨1, _⟩ => ⟨S26x20x32, .f32⟩
  | .hbm, ⟨2, _⟩ => ⟨S832x416, .f32⟩
  | .hbm, ⟨3, _⟩ => ⟨S416, .f32⟩
  | .hbm, ⟨4, _⟩ => ⟨S416x128, .f32⟩
  | .hbm, ⟨5, _⟩ => ⟨S128, .f32⟩
  | .hbm, ⟨6, _⟩ => ⟨S_, .f32⟩
  | .hbm, ⟨7, _⟩ => ⟨S26, .f32⟩
  | .hbm, ⟨8, _⟩ => ⟨S_, .f32⟩
  | .hbm, ⟨9, _⟩ => ⟨S26, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S20, .f32⟩
  | .hbm, ⟨18, _⟩ => ⟨S_, .f32⟩
  | .hbm, ⟨19, _⟩ => ⟨S20, .f32⟩
  | .hbm, ⟨20, _⟩ => ⟨S20, .f32⟩
  | .hbm, ⟨21, _⟩ => ⟨S1, .f32⟩
  | .hbm, ⟨22, _⟩ => ⟨S_, .f32⟩
  | .hbm, ⟨23, _⟩ => ⟨S20, .f32⟩
  | .hbm, ⟨24, _⟩ => ⟨S20, .f32⟩
  | .hbm, ⟨25, _⟩ => ⟨S20, .f32⟩
  | .hbm, ⟨26, _⟩ => ⟨S20, .f32⟩
  | .hbm, ⟨27, _⟩ => ⟨S1, .f32⟩
  | .hbm, ⟨28, _⟩ => ⟨S20, .f32⟩
  | .hbm, ⟨29, _⟩ => ⟨S20, .f32⟩
  | .hbm, ⟨30, _⟩ => ⟨S20, .f32⟩
  | .hbm, ⟨31, _⟩ => ⟨S1, .f32⟩
  | .hbm, ⟨32, _⟩ => ⟨S21, .f32⟩
  | .hbm, ⟨33, _⟩ => ⟨S26x1, .f32⟩
  | .hbm, ⟨34, _⟩ => ⟨S26, .f32⟩
  | .hbm, ⟨35, _⟩ => ⟨S26x1, .f32⟩
  | .hbm, ⟨36, _⟩ => ⟨S1x21, .f32⟩
  | .hbm, ⟨37, _⟩ => ⟨S26x21, .f32⟩
  | .hbm, ⟨38, _⟩ => ⟨S26x21, .f32⟩
  | .hbm, ⟨39, _⟩ => ⟨S26x21, .f32⟩
  | .hbm, ⟨40, _⟩ => ⟨S26x21, .f32⟩
  | .hbm, ⟨41, _⟩ => ⟨S26x21, .f32⟩
  | .hbm, ⟨42, _⟩ => ⟨S1x26x21, .f32⟩
  | .hbm, ⟨43, _⟩ => ⟨S16384x26x1, .f32⟩
  | .hbm, ⟨44, _⟩ => ⟨S16384x26x21, .f32⟩
  | .hbm, ⟨45, _⟩ => ⟨S16384x26x21, .f32⟩
  | .hbm, ⟨46, _⟩ => ⟨S16384x26x21, .i1⟩
  | .hbm, ⟨47, _⟩ => ⟨S16384x26x21, .i32⟩
  | .hbm, ⟨48, _⟩ => ⟨S_, .i32⟩
  | .hbm, ⟨49, _⟩ => ⟨S16384x26, .i32⟩
  | .hbm, ⟨50, _⟩ => ⟨S_, .i32⟩
  | .hbm, ⟨51, _⟩ => ⟨S16384x26, .i32⟩
  | .hbm, ⟨52, _⟩ => ⟨S16384x26, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S16384x26, .i32⟩
  | .hbm, ⟨57, _⟩ => ⟨S16384x26, .i32⟩
  | .hbm, ⟨58, _⟩ => ⟨S_, .i32⟩
  | .hbm, ⟨59, _⟩ => ⟨S16384x26, .i32⟩
  | .hbm, ⟨60, _⟩ => ⟨S16384x26, .i32⟩
  | .hbm, ⟨61, _⟩ => ⟨S26, .i32⟩
  | .hbm, ⟨62, _⟩ => ⟨S1x26, .i32⟩
  | .hbm, ⟨63, _⟩ => ⟨S_, .i32⟩
  | .hbm, ⟨64, _⟩ => ⟨S1x26, .i32⟩
  | .hbm, ⟨65, _⟩ => ⟨S1x26, .i1⟩
  | .hbm, ⟨66, _⟩ => ⟨S_, .i32⟩
  | .hbm, ⟨67, _⟩ => ⟨S1x26, .i32⟩
  | .hbm, ⟨68, _⟩ => ⟨S1x26, .i32⟩
  | .hbm, ⟨69, _⟩ => ⟨S1x26, .i32⟩
  | .hbm, ⟨70, _⟩ => ⟨S_, .i32⟩
  | .hbm, ⟨71, _⟩ => ⟨S16384x26, .i32⟩
  | .hbm, ⟨72, _⟩ => ⟨S16384x26, .i1⟩
  | .hbm, ⟨73, _⟩ => ⟨S_, .i32⟩
  | .hbm, ⟨74, _⟩ => ⟨S16384x26, .i32⟩
  | .hbm, ⟨75, _⟩ => ⟨S16384x26, .i32⟩
  | .hbm, ⟨76, _⟩ => ⟨S16384x26, .i32⟩
  | .hbm, ⟨77, _⟩ => ⟨S16384x26, .i32⟩
  | .hbm, ⟨78, _⟩ => ⟨S16384x26x1, .i32⟩
  | .hbm, ⟨79, _⟩ => ⟨S16384x26x1, .i32⟩
  | .hbm, ⟨80, _⟩ => ⟨S16384x26x2, .i32⟩
  | .hbm, ⟨81, _⟩ => ⟨S16384x26x32, .f32⟩
  | .hbm, ⟨82, _⟩ => ⟨S16384x832, .f32⟩
  | .hbm, ⟨83, _⟩ => ⟨S16384x416, .f32⟩
  | .hbm, ⟨84, _⟩ => ⟨S1x416, .f32⟩
  | .hbm, ⟨85, _⟩ => ⟨S16384x416, .f32⟩
  | .hbm, ⟨86, _⟩ => ⟨S16384x416, .f32⟩
  | .hbm, ⟨87, _⟩ => ⟨S_, .f32⟩
  | .hbm, ⟨88, _⟩ => ⟨S16384x416, .f32⟩
  | .hbm, ⟨89, _⟩ => ⟨S16384x416, .f32⟩
  | .hbm, ⟨90, _⟩ => ⟨S_, .f32⟩
  | .hbm, ⟨91, _⟩ => ⟨S_, .f32⟩
  | .hbm, ⟨92, _⟩ => ⟨S16384x416, .f32⟩
  | .hbm, ⟨93, _⟩ => ⟨S16384x416, .f32⟩
  | .hbm, ⟨94, _⟩ => ⟨S16384x416, .f32⟩
  | .hbm, ⟨95, _⟩ => ⟨S_, .f32⟩
  | .hbm, ⟨96, _⟩ => ⟨S16384x416, .f32⟩
  | .hbm, ⟨97, _⟩ => ⟨S16384x416, .f32⟩
  | .hbm, ⟨98, _⟩ => ⟨S16384x416, .f32⟩
  | .hbm, ⟨99, _⟩ => ⟨S16384x128, .f32⟩
  | .hbm, ⟨100, _⟩ => ⟨S1x128, .f32⟩
  | .hbm, ⟨101, _⟩ => ⟨S16384x128, .f32⟩
  | .hbm, ⟨102, _⟩ => ⟨S16384x128, .f32⟩
  | .hbm, ⟨103, _⟩ => ⟨S_, .f32⟩
  | .hbm, ⟨104, _⟩ => ⟨S16384x128, .f32⟩
  | .hbm, ⟨105, _⟩ => ⟨S16384x128, .f32⟩
  | .hbm, ⟨106, _⟩ => ⟨S_, .f32⟩
  | .hbm, ⟨107, _⟩ => ⟨S_, .f32⟩
  | .hbm, ⟨108, _⟩ => ⟨S16384x128, .f32⟩
  | .hbm, ⟨109, _⟩ => ⟨S16384x128, .f32⟩
  | .hbm, ⟨110, _⟩ => ⟨S16384x128, .f32⟩
  | .hbm, ⟨111, _⟩ => ⟨S_, .f32⟩
  | .hbm, ⟨112, _⟩ => ⟨S16384x128, .f32⟩
  | .hbm, ⟨113, _⟩ => ⟨S16384x128, .f32⟩
  | .hbm, ⟨114, _⟩ => ⟨S16384x128, .f32⟩
  | _, _ => ⟨S16384x26, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_cst_2 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_cst : Ref sig .tc := ⟨.hbm, 15, rfl⟩
abbrev main_call0_v3 : Ref sig .tc := ⟨.hbm, 16, rfl⟩
abbrev main_call0_v4 : Ref sig .tc := ⟨.hbm, 17, rfl⟩
abbrev main_call0_cst_0 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_v15 : Ref sig .tc := ⟨.hbm, 30, rfl⟩
abbrev main_call0_v16 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_c : Ref sig .tc := ⟨.hbm, 48, rfl⟩
abbrev main_v18 : Ref sig .tc := ⟨.hbm, 49, rfl⟩
abbrev main_c_3 : Ref sig .tc := ⟨.hbm, 50, rfl⟩
abbrev main_v19 : Ref sig .tc := ⟨.hbm, 51, rfl⟩
abbrev main_v20 : Ref sig .tc := ⟨.hbm, 52, rfl⟩
abbrev main_c_4 : Ref sig .tc := ⟨.hbm, 53, rfl⟩
abbrev main_c_5 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_c_6 : Ref sig .tc := ⟨.hbm, 63, rfl⟩
abbrev main_v24 : Ref sig .tc := ⟨.hbm, 64, rfl⟩
abbrev main_v25 : Ref sig .tc := ⟨.hbm, 65, rfl⟩
abbrev main_c_7 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_c_8 : Ref sig .tc := ⟨.hbm, 70, rfl⟩
abbrev main_v29 : Ref sig .tc := ⟨.hbm, 71, rfl⟩
abbrev main_v30 : Ref sig .tc := ⟨.hbm, 72, rfl⟩
abbrev main_c_9 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_cst_10 : Ref sig .tc := ⟨.hbm, 87, rfl⟩
abbrev main_v44 : Ref sig .tc := ⟨.hbm, 88, rfl⟩
abbrev main_v45 : Ref sig .tc := ⟨.hbm, 89, rfl⟩
abbrev main_cst_11 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_cst_12 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_cst_13 : Ref sig .tc := ⟨.hbm, 103, rfl⟩
abbrev main_v57 : Ref sig .tc := ⟨.hbm, 104, rfl⟩
abbrev main_v58 : Ref sig .tc := ⟨.hbm, 105, rfl⟩
abbrev main_cst_14 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_cst_15 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩

abbrev nD : Nat := 1
abbrev τ : Topo := Topo.v7x

variable {F : FTy → Type} [FloatOps F]
-- ==== Proof.KernelIdeal.MinMax.lean ====
/- The first kernel function, `_minmax_body`, as triples over named values: at the grid's first point it
   stores the block's column minima and negated column maxima, at every later point the minimum of those
   and what the output already held. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- At a point where the first branch runs and the second does not, the body overwrites the output's
    buffer with the block's own minima. -/
theorem minmax_first (c : Dev nD) (i : grid0.Coords) (arg1 : Memref sig .tc .vmem S4096x26 .f32) (harg1 : arg1.IsWhole)
    (arg2 : Memref sig .tc .vmem S2x26 .f32) (harg2 : arg2.IsWhole) (hc0 : k0_cond1 i = 1#1) (hc1 : ¬ k0_cond2 i = 1#1)
    (x0 : Vec F S4096x26 .f32) (E : Set ℕ) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (k0_pay1 x0)) -∗ K ⟨⟩))
      ⊢ wp frame (wpE (defs₀ (F := F)) Variants.none c none) E (cc0__minmax_body i arg1 harg1 arg2 harg2) K := by
  simp only [cc0__minmax_body_eq_skeleton]; unfold cc0__minmax_body_skel
  unfold owns
  iintro ⟨⟨%f0, %hf0, H0⟩, ⟨%d1, %f1, %hf1, H1⟩, Hk⟩
  obtain rfl := harg1.eq_unread hf0
  sl_exec (disch := first | sl_exact hc0 | sl_exact hc1)
  sl_step
  iapply Hk
  isplitl [H0]
  · iexists _; isplitr; · ipureintro; exact harg1.read_unread _
    iexact H0
  iexists _; isplitr; rotate_left
  · iexact H1
  ipureintro
  refine (View.read_writes_full _ _ _ _ _).trans ?_
  sl_unfold_words
  rw [View.readAt_full, harg1.read_unread]

/-- At a point where only the second branch runs, the body leaves the minimum of the block's own minima
    and what the output's buffer held. -/
theorem minmax_later (c : Dev nD) (i : grid0.Coords) (arg1 : Memref sig .tc .vmem S4096x26 .f32) (harg1 : arg1.IsWhole)
    (arg2 : Memref sig .tc .vmem S2x26 .f32) (harg2 : arg2.IsWhole) (hc0 : ¬ k0_cond1 i = 1#1) (hc1 : k0_cond2 i = 1#1)
    (x0 : Vec F S4096x26 .f32) (a : Vec F S2x26 .f32) (E : Set ℕ) (K : PUnit → sProp 𝕄) :
    iprop(owns (c : Thread nD τ) arg1 fullShare x0 ∗ owns (c : Thread nD τ) arg2 fullShare a
        ∗ (iprop(owns (c : Thread nD τ) arg1 fullShare x0 ∗ owns (c : Thread nD τ) arg2 fullShare (k0_pay2 x0 a)) -∗ K ⟨⟩))
      ⊢ wp frame (wpE (defs₀ (F := F)) Variants.none c none) E (cc0__minmax_body i arg1 harg1 arg2 harg2) K := by
  simp only [cc0__minmax_body_eq_skeleton]; unfold cc0__minmax_body_skel
  unfold owns
  iintro ⟨⟨%f0, %hf0, H0⟩, ⟨%f1, %hf1, H1⟩, Hk⟩
  obtain rfl := harg1.eq_unread hf0; obtain rfl := harg2.eq_unread hf1
  sl_exec (disch := first | sl_exact hc0 | sl_exact hc1)
  sl_step
  iapply Hk
  isplitl [H0]
  · iexists _; isplitr; · ipureintro; exact harg1.read_unread _
    iexact H0
  iexists _; isplitr; rotate_left
  · iexact H1
  ipureintro
  refine (View.read_writes_full _ _ _ _ _).trans ?_
  sl_unfold_words
  rw [View.readAt_full, View.readAt_full, harg1.read_unread, harg2.read_unread]

end Cert.KernelIdeal.Run

end
-- ==== Proof.KernelIdeal.Region0.lean ====
/- The first region: its proof data — the running minima after each point — and its body obligation. -/
module

public import proofs.«01_k».proof.Proof.KernelIdeal.MinMax
public import proofs.«01_k».proof.Proof.Gen.KernelIdeal.Regions
public import Idealize.ShloMosaic.Lib.Pipeline.TableIdle
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : Dev nD → Valuation τ sig (Elt F))

/-! ## The grid -/

/-- The first branch runs at the grid's first point only. -/
theorem first_iff : ∀ t : Fin cfg0.N, k0_cond1 (grid0.coords t) = 1#1 ↔ t.val = 0 :=
  (fun t => by
    have ht : t.val < 4 := Nat.lt_of_lt_of_eq t.isLt N_0
    have e0 : (grid0.coords t 0).val = t.val / 1 % 4 := Pipeline.Grid.coords_val t 0 (by decide) rfl
    simp only [k0_cond1, e0]
    word_cmp
   : ∀ t : Fin grid0.N, k0_cond1 (grid0.coords t) = 1#1 ↔ t.val = 0)

/-- The second branch runs at every later point. -/
theorem later_iff : ∀ t : Fin cfg0.N, k0_cond2 (grid0.coords t) = 1#1 ↔ t.val ≠ 0 :=
  (fun t => by
    have ht : t.val < 4 := Nat.lt_of_lt_of_eq t.isLt N_0
    have e0 : (grid0.coords t 0).val = t.val / 1 % 4 := Pipeline.Grid.coords_val t 0 (by decide) rfl
    simp only [k0_cond2, e0]
    word_cmp
   : ∀ t : Fin grid0.N, k0_cond2 (grid0.coords t) = 1#1 ↔ t.val ≠ 0)

/-- The output is stored at every point. -/
theorem live0 : ∀ t : Fin cfg0.N, cfg0.idle 1 (grid0.coords t) = false := by decide +kernel

/-- Whether the output's buffer is fresh at each position: at the start, and once written back at the end. -/
def freshTab0 : ℕ → Bool
  | 0 => true
  | n + 1 => n == 3

theorem freshTab0_step : ∀ t : Fin cfg0.N,
    freshTab0 (t.val + 1) = ((cfg0.win 1).flush t || (cfg0.idle 1 (cfg0.grid.coords t) && freshTab0 t.val)) := by decide +kernel

/-- From the second point on the output's buffer holds what the body stored before. -/
theorem notFresh0 (t : Fin cfg0.N) (h : t.val ≠ 0) : cfg0.fresh 1 t.val = false := by
  rw [Pipeline.Cfg.fresh_tab cfg0 1 freshTab0 rfl freshTab0_step t.val (Nat.le_of_lt t.isLt)]
  have hN : t.val < 4 := lt_of_lt_of_eq t.isLt (show cfg0.N = 4 from N_0)
  obtain ⟨n, hn⟩ := Nat.exists_eq_succ_of_ne_zero h
  rw [hn]; simp only [freshTab0, beq_eq_false_iff_ne]; omega

/-! ## The proof data -/

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running minima after point `n`. -/
def acc (c : Dev nD) : (n : ℕ) → n < cfg0.N → Vec F S2x26 .f32
  | 0, hn => k0_pay1 (blk0 V c 0 ⟨0, hn⟩)
  | n + 1, hn => k0_pay2 (blk0 V c 0 ⟨n + 1, hn⟩) (acc c n (Nat.lt_of_succ_lt hn))

/-- The first region's proof data on core `c`: the arrays as the region finds them, the output's buffer at the running
    minima after each point. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => acc V c t.val t.isLt
  Φ _ := Pipeline.ΦA spec0 c
  q _ := fullShare
  owed _ := 0

theorem dat0_A (c : Dev nD) (w : Fin cfg0.W) : (dat0 V c).A w = V c (Pipeline.arrRef spec0 w) := by dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = acc V c t.val t.isLt := by dsimp only [dat0]

/-- The input's buffer holds its block before every point. -/
theorem dat0_before0 (c : Dev nD) (t : Fin cfg0.N) (d) : (dat0 V c).before 0 t d = blk0 V c 0 t :=
  ((dat0 V c).before_in_eq_fetched 0 rfl (fun _ => rfl) (fun _ _ _ => rfl)
    (fun t => by rw [dat0_after0]; unfold Dat.blockOf blk0; rw [dat0_A]; try rfl) t d).trans
    (by unfold Dat.fetched Dat.blockOf blk0; rw [dat0_A]; try rfl)

/-- From the second point on the output's buffer holds the minima after the point before. -/
theorem dat0_before1 (c : Dev nD) (t : Fin cfg0.N) (h : t.val ≠ 0) (d) :
    (dat0 V c).before 1 t d = acc V c (t.val - 1) (Nat.lt_of_le_of_lt (Nat.sub_le _ _) t.isLt) := by
  rw [Dat.before_out_traj _ 1 rfl (fun _ _ => rfl)
      (fun t _ hi _ => absurd ((live0 t).symm.trans hi) Bool.false_ne_true) t.val t rfl d,
    if_neg (by rw [notFresh0 t h]; exact Bool.false_ne_true)]
  dsimp only [dat0]

/-! ## The body obligation -/

abbrev ms0_0 (t : Fin cfg0.N) : Memref sig .tc .vmem S4096x26 .f32 := win0_0.stage (cfg0.slots t 0)
abbrev ms0_1 (t : Fin cfg0.N) : Memref sig .tc .vmem S2x26 .f32 := win0_1.stage (cfg0.slots t 1)

/-- What the body is called with at point `t`, -/
def pre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def post0 (c : Dev nD) (t : Fin cfg0.N) : sProp 𝕄 :=
  iprop((dat0 V c).Φ t.succ ∗ (dat0 V c).owesAt () t.succ
    ∗ (dat0 V c).leavesExact 0 t ∗ (dat0 V c).leavesExact 1 t)

/-- The running minima at the first point, -/
theorem acc_zero (c : Dev nD) (t : Fin cfg0.N) (h : t.val = 0) : acc V c t.val t.isLt = k0_pay1 (blk0 V c 0 t) := by
  obtain ⟨n, hn⟩ := t; obtain rfl : n = 0 := h; rfl

/-- and at a later one. -/
theorem acc_succ (c : Dev nD) (t : Fin cfg0.N) (h : t.val ≠ 0) : acc V c t.val t.isLt
    = k0_pay2 (blk0 V c 0 t) (acc V c (t.val - 1) (Nat.lt_of_le_of_lt (Nat.sub_le _ _) t.isLt)) := by
  obtain ⟨n, hn⟩ := t
  cases n with
  | zero => exact absurd rfl h
  | succ n => rfl

/-- The body at any point. -/
theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [dat0_before0]
  rw [show (dat0 V c).Φ t.succ = (dat0 V c).Φ t.castSucc from rfl,
    show (dat0 V c).owesAt () t.succ = (dat0 V c).owesAt () t.castSucc from rfl,
    show (dat0 V c).leavesExact 0 t = owns (c : Thread nD τ) (ms0_0 t) fullShare ((dat0 V c).after 0 t) from rfl,
    show (dat0 V c).leavesExact 1 t = owns (c : Thread nD τ) (ms0_1 t) fullShare ((dat0 V c).after 1 t) from by
      unfold Dat.leavesExact; rw [live0 t], dat0_after0, dat0_after1]
  by_cases h0 : t.val = 0
  · rw [acc_zero V c t h0]
    iintro ⟨HΦ, Ho, ⟨%d0, H0⟩, ⟨%d1, H1⟩⟩
    iapply (minmax_first c (grid0.coords t) _ _ _ _ ((first_iff t).mpr h0) (fun h => (later_iff t).mp h h0) (blk0 V c 0 t) Set.univ _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · rw [acc_succ V c t h0]
    simp only [dat0_before1 V c t h0]
    iintro ⟨HΦ, Ho, ⟨%d0, H0⟩, ⟨%d1, H1⟩⟩
    iapply (minmax_later c (grid0.coords t) _ _ _ _ (fun h => h0 ((first_iff t).mp h)) ((later_iff t).mpr h0) (blk0 V c 0 t) _ Set.univ _)
    isplitl [H0]; · iexact H0
    isplitl [H1]; · iexact H1
    iintro ⟨H0, H1⟩
    isplitl [HΦ]; · iexact HΦ
    isplitl [Ho]; · iexact Ho
    isplitl [H0]; · iexact H0
    iexact H1

/-- The body obligation of the first region. -/
theorem obligation0 (c : Dev nD) : BodyObligation (dat0 V c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (sound0 V c t) rfl .rfl fun _ => .rfl

end Cert.KernelIdeal.Run

end
-- ==== Proof.KernelIdeal.MainVals.lean ====
/- What the second kernel function, `_main_body`, computes, as named values over any float semantics. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The `k`-th entry of the time grid, as the body reads it. -/
def timeAt (x0 : Vec F S1x21 .f32) {k : ℕ} (inb : ∀ a, (![0, k] : Fin 2 → ℕ) a + S1x1.size a ≤ S1x21.size a) :
    Vec F S1x1 .f32 := View.ld x0 (Rect.unit (s := S1x21) ![0, k] S1x1.size inb)

/-- The first row of the minima array. -/
def loRow (x1 : Vec F S2x26 .f32) : Vec F S1x26 .f32 :=
  View.ld x1 (Rect.unit (s := S2x26) ![0, 0] S1x26.size inb_S2x26_S1x26_0_0)

/-- The second row of the minima array. -/
def hiRow (x1 : Vec F S2x26 .f32) : Vec F S1x26 .f32 :=
  View.ld x1 (Rect.unit (s := S2x26) ![1, 0] S1x26.size inb_S2x26_S1x26_1_0)

/-- The matrix the body keeps in its first scratch: the field of every table row. -/
def eVal : Vec F S26x520 .bf16 := k1_pay1

/-- The matrix the body keeps in its second scratch: the tables carried through the first layer's weights. -/
def mVal (tab : Vec F S520x32 .f32) (w1 : Vec F S832x416 .f32) : Vec F S520x416 .bf16 :=
  k1_pay10 (k1_pay5 (iota .tc S32x832 32 [0] iota_S32x832_d0_w32) (Scalar.select (Scalar.cmpi .eq 32#32 0#32) 1#32 32#32)
    k1_pay2 k1_pay3 k1_pay4) (iota .tc S520x832 32 [1] iota_S520x832_d1_w32) k1_pay6 32#32 k1_pay7 k1_pay8 k1_pay9 tab w1

/-- The count of thresholds below each activation after the first two thresholds. -/
def count2 (x0 : Vec F S1x21 .f32) (x1 : Vec F S2x26 .f32) (x2 : Vec F S4096x26 .f32) : Vec F S4096x26 .f32 :=
  k1_pay13 x2 (loRow x1) (hiRow x1) (timeAt x0 inb_S1x21_S1x1_0_1) (timeAt x0 inb_S1x21_S1x1_0_2)

/-- The count after six thresholds. -/
def count6 (x0 : Vec F S1x21 .f32) (x1 : Vec F S2x26 .f32) (x2 : Vec F S4096x26 .f32) : Vec F S4096x26 .f32 :=
  k1_pay15 x2 (k1_pay11 (loRow x1)) (k1_pay12 (loRow x1) (hiRow x1)) (count2 x0 x1 x2)
    (k1_pay14 (loRow x1) (hiRow x1) (timeAt x0 inb_S1x21_S1x1_0_3)) (timeAt x0 inb_S1x21_S1x1_0_4) (timeAt x0 inb_S1x21_S1x1_0_5) (timeAt x0 inb_S1x21_S1x1_0_6)

/-- The count after ten thresholds. -/
def count10 (x0 : Vec F S1x21 .f32) (x1 : Vec F S2x26 .f32) (x2 : Vec F S4096x26 .f32) : Vec F S4096x26 .f32 :=
  k1_pay17 x2 (k1_pay11 (loRow x1)) (k1_pay12 (loRow x1) (hiRow x1)) (count6 x0 x1 x2)
    (k1_pay16 (k1_pay12 (loRow x1) (hiRow x1)) (timeAt x0 inb_S1x21_S1x1_0_7)) (timeAt x0 inb_S1x21_S1x1_0_8) (timeAt x0 inb_S1x21_S1x1_0_9) (timeAt x0 inb_S1x21_S1x1_0_10)

/-- The count after fourteen thresholds. -/
def count14 (x0 : Vec F S1x21 .f32) (x1 : Vec F S2x26 .f32) (x2 : Vec F S4096x26 .f32) : Vec F S4096x26 .f32 :=
  k1_pay19 x2 (k1_pay11 (loRow x1)) (k1_pay12 (loRow x1) (hiRow x1)) (count10 x0 x1 x2)
    (k1_pay18 (k1_pay12 (loRow x1) (hiRow x1)) (timeAt x0 inb_S1x21_S1x1_0_11)) (timeAt x0 inb_S1x21_S1x1_0_12) (timeAt x0 inb_S1x21_S1x1_0_13) (timeAt x0 inb_S1x21_S1x1_0_14)

/-- The count after eighteen thresholds. -/
def count18 (x0 : Vec F S1x21 .f32) (x1 : Vec F S2x26 .f32) (x2 : Vec F S4096x26 .f32) : Vec F S4096x26 .f32 :=
  k1_pay21 x2 (k1_pay11 (loRow x1)) (k1_pay12 (loRow x1) (hiRow x1)) (count14 x0 x1 x2)
    (k1_pay20 (k1_pay12 (loRow x1) (hiRow x1)) (timeAt x0 inb_S1x21_S1x1_0_15)) (timeAt x0 inb_S1x21_S1x1_0_16) (timeAt x0 inb_S1x21_S1x1_0_17) (timeAt x0 inb_S1x21_S1x1_0_18)

/-- The mask marking, in every row, the table rows the activations select. -/
def hotVal (x0 : Vec F S1x21 .f32) (x1 : Vec F S2x26 .f32) (x2 : Vec F S4096x26 .f32) (e : Vec F S26x520 .bf16) :
    IVec S4096x520 1 :=
  k1_pay23 x2 (k1_pay11 (loRow x1)) (k1_pay12 (loRow x1) (hiRow x1)) (count18 x0 x1 x2)
    (k1_pay22 (k1_pay12 (loRow x1) (hiRow x1)) (timeAt x0 inb_S1x21_S1x1_0_19)) (timeAt x0 inb_S1x21_S1x1_0_20) e

/-- The block of the result one grid point stores, from the blocks it reads and the two scratches. -/
def outVal (x0 : Vec F S1x21 .f32) (x1 : Vec F S2x26 .f32) (x2 : Vec F S4096x26 .f32) (x5 : Vec F S1x416 .f32)
    (x6 : Vec F S416x128 .f32) (x7 : Vec F S1x128 .f32) (e : Vec F S26x520 .bf16) (mm : Vec F S520x416 .bf16) :
    Vec F S4096x128 .f32 :=
  k1_pay24 (hotVal x0 x1 x2 e) (Scalar.ofBits .f32 0x3F800000#32) mm x5 x6 x7

/-- The condition under which the body fills its scratches. -/
abbrev fills (i : grid1.Coords) : Prop :=
  Scalar.cmpi .ne (Scalar.extui (Scalar.cmpi .eq (BitVec.ofNat 32 (i 0).val) 0#32)) 0#32 = 1#1

end Cert.KernelIdeal.Run

end
-- ==== Proof.KernelIdeal.MainBody.lean ====
/- The second kernel function, `_main_body`, as triples over the named values: the grid's first point fills the two
   scratches, every later point reads them. -/
module

public import proofs.«01_k».proof.Proof.KernelIdeal.MainVals
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.VecWindow
public import Idealize.ShloMosaic.Lib.WordCmp
public import Idealize.ShloMosaic.Lib.Pipeline.ValueKit.Acc

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- At the point where the scratches are filled: from scratches at anything, the body leaves them at their matrices
    and stores the block computed from them. -/
theorem main_first (c : Dev nD) (i : grid1.Coords)
    (arg1 : Memref sig .tc .vmem S1x21 .f32) (harg1 : arg1.IsWhole) (arg2 : Memref sig .tc .vmem S2x26 .f32)
    (harg2 : arg2.IsWhole) (arg3 : Memref sig .tc .vmem S4096x26 .f32) (harg3 : arg3.IsWhole) (arg4 : Memref
    sig .tc .vmem S520x32 .f32) (harg4 : arg4.IsWhole) (arg5 : Memref sig .tc .vmem S832x416 .f32) (harg5 :
    arg5.IsWhole) (arg6 : Memref sig .tc .vmem S1x416 .f32) (harg6 : arg6.IsWhole) (arg7 : Memref sig .tc
    .vmem S416x128 .f32) (harg7 : arg7.IsWhole) (arg8 : Memref sig .tc .vmem S1x128 .f32) (harg8 :
    arg8.IsWhole) (arg9 : Memref sig .tc .vmem S4096x128 .f32) (harg9 : arg9.IsWhole) (arg10 : Memref sig .tc
    .vmem S26x520 .bf16) (harg10 : arg10.IsWhole) (arg11 : Memref sig .tc .vmem S520x416 .bf16) (harg11 :
    arg11.IsWhole)
    (hc0 : fills i)
    (x0 : Vec F S1x21 .f32) (x1 : Vec F S2x26 .f32) (x2 : Vec F S4096x26 .f32) (x3 : Vec F S520x32 .f32) (x4 : Vec F S832x416 .f32) (x5 : Vec F S1x416 .f32) (x6 : Vec F S416x128 .f32) (x7 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (outVal x0 x1 x2 x5 x6 x7 eVal (mVal x3 x4)) ∗ owns (c : Thread nD τ) arg10 fullShare eVal ∗ owns (c : Thread nD τ) arg11 fullShare (mVal x3 x4))
          -∗ K ⟨⟩))
      ⊢ wp frame (wpE (defs₀ (F := F)) Variants.none c none) E (cc1__main_body i arg1 harg1 arg2 harg2 arg3 harg3 arg4 harg4 arg5 harg5 arg6 harg6 arg7 harg7 arg8 harg8 arg9 harg9 arg10 harg10 arg11 harg11) K := by
  simp only [cc1__main_body_eq_skeleton]; unfold cc1__main_body_skel
  simp only [k1_part9_eq_skeleton]; unfold k1_part9_skel
  simp only [k1_part1_eq_skeleton, k1_part2_eq_skeleton, k1_part3_eq_skeleton, k1_part4_eq_skeleton, k1_part5_eq_skeleton,
    k1_part6_eq_skeleton, k1_part7_eq_skeleton, k1_part8_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, %hf9, H9⟩, ⟨%d10, %f10, %hf10, H10⟩, ⟨%d11, %f11, %hf11, H11⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  sl_exec (disch := first | sl_exact hc0)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; rotate_left
    · iexact H9
    ipureintro
    refine (View.read_writes_full _ _ _ _ _).trans ?_
    sl_unfold_words
    simp (disch := decide) only [View.readAt_eq_ld, Memref.IsWhole.read_unread, View.ld_unit_lit', View.readCov_unit_lit']
    unfold outVal hotVal count18 count14 count10 count6 count2 loRow hiRow timeAt eVal mVal
    rfl
  isplitl [H10]
  · iexists _; isplitr; rotate_left
    · iexact H10
    ipureintro
    refine (View.read_writes_full _ _ _ _ _).trans ?_
    sl_unfold_words
    unfold eVal
    rfl
  iexists _; isplitr; rotate_left
  · iexact H11
  ipureintro
  refine (View.read_writes_full _ _ _ _ _).trans ?_
  sl_unfold_words
  simp (disch := decide) only [View.readAt_eq_ld, Memref.IsWhole.read_unread, View.ld_unit_lit', View.readCov_unit_lit']
  unfold mVal
  rfl

set_option maxHeartbeats 1000000 in
/-- At every other point the body reads the scratches, leaves them, and stores the block computed from them. -/
theorem main_later (c : Dev nD) (i : grid1.Coords)
    (arg1 : Memref sig .tc .vmem S1x21 .f32) (harg1 : arg1.IsWhole) (arg2 : Memref sig .tc .vmem S2x26 .f32)
    (harg2 : arg2.IsWhole) (arg3 : Memref sig .tc .vmem S4096x26 .f32) (harg3 : arg3.IsWhole) (arg4 : Memref
    sig .tc .vmem S520x32 .f32) (harg4 : arg4.IsWhole) (arg5 : Memref sig .tc .vmem S832x416 .f32) (harg5 :
    arg5.IsWhole) (arg6 : Memref sig .tc .vmem S1x416 .f32) (harg6 : arg6.IsWhole) (arg7 : Memref sig .tc
    .vmem S416x128 .f32) (harg7 : arg7.IsWhole) (arg8 : Memref sig .tc .vmem S1x128 .f32) (harg8 :
    arg8.IsWhole) (arg9 : Memref sig .tc .vmem S4096x128 .f32) (harg9 : arg9.IsWhole) (arg10 : Memref sig .tc
    .vmem S26x520 .bf16) (harg10 : arg10.IsWhole) (arg11 : Memref sig .tc .vmem S520x416 .bf16) (harg11 :
    arg11.IsWhole)
    (hc0 : ¬ fills i)
    (x0 : Vec F S1x21 .f32) (x1 : Vec F S2x26 .f32) (x2 : Vec F S4096x26 .f32) (x3 : Vec F S520x32 .f32) (x4 : Vec F S832x416 .f32) (x5 : Vec F S1x416 .f32) (x6 : Vec F S416x128 .f32) (x7 : Vec F S1x128 .f32) (e : Vec F S26x520 .bf16) (mm : Vec F S520x416 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare e ∗ owns (c : Thread nD τ) arg11 fullShare mm
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (outVal x0 x1 x2 x5 x6 x7 e mm) ∗ owns (c : Thread nD τ) arg10 fullShare e ∗ owns (c : Thread nD τ) arg11 fullShare mm)
          -∗ K ⟨⟩))
      ⊢ wp frame (wpE (defs₀ (F := F)) Variants.none c none) E (cc1__main_body i arg1 harg1 arg2 harg2 arg3 harg3 arg4 harg4 arg5 harg5 arg6 harg6 arg7 harg7 arg8 harg8 arg9 harg9 arg10 harg10 arg11 harg11) K := by
  simp only [cc1__main_body_eq_skeleton]; unfold cc1__main_body_skel
  simp only [k1_part9_eq_skeleton]; unfold k1_part9_skel
  simp only [k1_part1_eq_skeleton, k1_part2_eq_skeleton, k1_part3_eq_skeleton, k1_part4_eq_skeleton, k1_part5_eq_skeleton,
    k1_part6_eq_skeleton, k1_part7_eq_skeleton, k1_part8_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, %hf9, H9⟩, ⟨%f10, %hf10, H10⟩, ⟨%f11, %hf11, H11⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg10.eq_unread hf10
  obtain rfl := harg11.eq_unread hf11
  sl_exec (disch := first | sl_exact hc0)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; rotate_left
    · iexact H9
    ipureintro
    refine (View.read_writes_full _ _ _ _ _).trans ?_
    sl_unfold_words
    simp (disch := decide) only [View.readAt_eq_ld, Memref.IsWhole.read_unread, View.ld_unit_lit', View.readCov_unit_lit']
    unfold outVal hotVal count18 count14 count10 count6 count2 loRow hiRow timeAt
    rfl
  isplitl [H10]
  · iexists _; isplitr; · ipureintro; exact harg10.read_unread _
    iexact H10
  iexists _; isplitr; · ipureintro; exact harg11.read_unread _
  iexact H11

end Cert.KernelIdeal.Run

end
-- ==== Proof.KernelIdeal.Region1.lean ====
/- The second region: its proof data — the two scratches filled at the first point and the block each point stores — and
   its body obligation. -/
module

public import proofs.«01_k».proof.Proof.KernelIdeal.MainBody
public import proofs.«01_k».proof.Proof.Gen.KernelIdeal.Regions
public import Idealize.ShloMosaic.Lib.Pipeline.TableIdle
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : Dev nD → Valuation τ sig (Elt F))

/-- The scratches are filled at the grid's first point only. -/
theorem fills_iff : ∀ t : Fin cfg1.N, fills (grid1.coords t) ↔ t.val = 0 :=
  (fun t => by
    have ht : t.val < 4 := Nat.lt_of_lt_of_eq t.isLt N_1
    have e0 : (grid1.coords t 0).val = t.val / 1 % 4 := Pipeline.Grid.coords_val t 0 (by decide) rfl
    simp only [fills, e0]
    word_cmp
   : ∀ t : Fin grid1.N, fills (grid1.coords t) ↔ t.val = 0)

/-! ## The proof data -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the second scratch holds from the first point on. -/
def mAt (c : Dev nD) : Vec F S520x416 .bf16 := mVal (blk1 V c 3 t1_0) (blk1 V c 4 t1_0)

/-- The block of the result point `t` stores. -/
def outAt (c : Dev nD) (t : Fin cfg1.N) : Vec F S4096x128 .f32 :=
  outVal (blk1 V c 0 t) (blk1 V c 1 t) (blk1 V c 2 t) (blk1 V c 5 t) (blk1 V c 6 t) (blk1 V c 7 t) eVal (mAt V c)

/-- The two scratches as memory references. -/
abbrev sc0 : Memref sig .tc .vmem S26x520 .bf16 := Memref.whole cc1_scratch0
abbrev sc1 : Memref sig .tc .vmem S520x416 .bf16 := Memref.whole cc1_scratch1

/-- The first region's staging buffers, at some contents. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f))

/-- What the region is entered with, its scratches named. -/
theorem entry_split (c : Dev nD) : (Pipeline.ΦA spec1 c : sProp 𝕄)
    ⊢ iprop(others c ∗ (∃ d, owns (c : Thread nD τ) sc0 fullShare d) ∗ (∃ d, owns (c : Thread nD τ) sc1 fullShare d) ∗ (∃ r, prngReg c r)) := by
  unfold Pipeline.ΦA others; rw [scopedRest1_eq]; simp only [sc0, sc1, owns_whole]
  iintro ⟨⟨H0, H1, H2, H3, H4⟩, Hg⟩
  isplitl [H0 H1 H2]
  · isplitl [H0]; · iexact H0
    isplitl [H1]; · iexact H1
    iexact H2
  isplitl [H3]; · iexact H3
  isplitl [H4]; · iexact H4
  iexact Hg

/-- And back. -/
theorem entry_join (c : Dev nD) : iprop(others c ∗ (∃ d, owns (c : Thread nD τ) sc0 fullShare d) ∗ (∃ d, owns (c : Thread nD τ) sc1 fullShare d) ∗ (∃ r, prngReg c r))
    ⊢ (Pipeline.ΦA spec1 c : sProp 𝕄) := by
  unfold Pipeline.ΦA others; rw [scopedRest1_eq]; simp only [sc0, sc1, owns_whole]
  iintro ⟨⟨H0, H1, H2⟩, H3, H4, Hg⟩
  isplitl [H0 H1 H2 H3 H4]
  · isplitl [H0]; · iexact H0
    isplitl [H1]; · iexact H1
    isplitl [H2]; · iexact H2
    isplitl [H3]; · iexact H3
    iexact H4
  iexact Hg

/-- The invariant before point `n`: at the start the scratches at anything, later at their matrices. -/
def inv1 (c : Dev nD) : (n : ℕ) → n ≤ cfg1.N → sProp 𝕄
  | 0, _ => Pipeline.ΦA spec1 c
  | _ + 1, _ => iprop(others c ∗ owns (c : Thread nD τ) sc0 fullShare eVal ∗ owns (c : Thread nD τ) sc1 fullShare (mAt V c) ∗ (∃ r, prngReg c r))

theorem inv1_pos (c : Dev nD) (n : ℕ) (h : n ≤ cfg1.N) (hz : n ≠ 0) : inv1 V c n h
    = iprop(others c ∗ owns (c : Thread nD τ) sc0 fullShare eVal ∗ owns (c : Thread nD τ) sc1 fullShare (mAt V c) ∗ (∃ r, prngReg c r)) := by
  cases n with
  | zero => exact absurd rfl hz
  | succ n => rfl

theorem inv1_zero (c : Dev nD) (n : ℕ) (h : n ≤ cfg1.N) (hz : n = 0) : inv1 V c n h = Pipeline.ΦA spec1 c := by
  subst hz; rfl

/-- The second region's proof data on core `c`. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => outAt V c t
  Φ t := inv1 V c t.val (Nat.le_of_lt_succ t.isLt)
  q _ := fullShare
  owed _ := 0

theorem dat1_A (c : Dev nD) (w : Fin cfg1.W) : (dat1 V c).A w = V c (Pipeline.arrRef spec1 w) := by dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) : (dat1 V c).after 4 t = blk1 V c 4 t := by dsimp only [dat1]
theorem dat1_after5 (c : Dev nD) (t : Fin cfg1.N) : (dat1 V c).after 5 t = blk1 V c 5 t := by dsimp only [dat1]
theorem dat1_after6 (c : Dev nD) (t : Fin cfg1.N) : (dat1 V c).after 6 t = blk1 V c 6 t := by dsimp only [dat1]
theorem dat1_after7 (c : Dev nD) (t : Fin cfg1.N) : (dat1 V c).after 7 t = blk1 V c 7 t := by dsimp only [dat1]
theorem dat1_after8 (c : Dev nD) (t : Fin cfg1.N) : (dat1 V c).after 8 t = outAt V c t := by dsimp only [dat1]

/-! Each input's buffer holds its block before every point, whether it is fetched there or not. -/

theorem dat1_before0 (c : Dev nD) (t : Fin cfg1.N) (d) : (dat1 V c).before 0 t d = blk1 V c 0 t :=
  (dat1 V c).before_in_eq_fetched 0 rfl (fun _ => rfl) (fun _ _ _ => rfl) (fun _ => rfl) t d
theorem dat1_before1 (c : Dev nD) (t : Fin cfg1.N) (d) : (dat1 V c).before 1 t d = blk1 V c 1 t :=
  (dat1 V c).before_in_eq_fetched 1 rfl (fun _ => rfl) (fun _ _ _ => rfl) (fun _ => rfl) t d
theorem dat1_before2 (c : Dev nD) (t : Fin cfg1.N) (d) : (dat1 V c).before 2 t d = blk1 V c 2 t :=
  (dat1 V c).before_in_eq_fetched 2 rfl (fun _ => rfl) (fun _ _ _ => rfl) (fun _ => rfl) t d
theorem dat1_before3 (c : Dev nD) (t : Fin cfg1.N) (d) : (dat1 V c).before 3 t d = blk1 V c 3 t :=
  (dat1 V c).before_in_eq_fetched 3 rfl (fun _ => rfl) (fun _ _ _ => rfl) (fun _ => rfl) t d
theorem dat1_before4 (c : Dev nD) (t : Fin cfg1.N) (d) : (dat1 V c).before 4 t d = blk1 V c 4 t :=
  (dat1 V c).before_in_eq_fetched 4 rfl (fun _ => rfl) (fun _ _ _ => rfl) (fun _ => rfl) t d
theorem dat1_before5 (c : Dev nD) (t : Fin cfg1.N) (d) : (dat1 V c).before 5 t d = blk1 V c 5 t :=
  (dat1 V c).before_in_eq_fetched 5 rfl (fun _ => rfl) (fun _ _ _ => rfl) (fun _ => rfl) t d
theorem dat1_before6 (c : Dev nD) (t : Fin cfg1.N) (d) : (dat1 V c).before 6 t d = blk1 V c 6 t :=
  (dat1 V c).before_in_eq_fetched 6 rfl (fun _ => rfl) (fun _ _ _ => rfl) (fun _ => rfl) t d
theorem dat1_before7 (c : Dev nD) (t : Fin cfg1.N) (d) : (dat1 V c).before 7 t d = blk1 V c 7 t :=
  (dat1 V c).before_in_eq_fetched 7 rfl (fun _ => rfl) (fun _ _ _ => rfl) (fun _ => rfl) t d

/-! ## The body obligation -/

abbrev ms1_0 (t : Fin cfg1.N) : Memref sig .tc .vmem S1x21 .f32 := win1_0.stage (cfg1.slots t 0)
abbrev ms1_1 (t : Fin cfg1.N) : Memref sig .tc .vmem S2x26 .f32 := win1_1.stage (cfg1.slots t 1)
abbrev ms1_2 (t : Fin cfg1.N) : Memref sig .tc .vmem S4096x26 .f32 := win1_2.stage (cfg1.slots t 2)
abbrev ms1_3 (t : Fin cfg1.N) : Memref sig .tc .vmem S520x32 .f32 := win1_3.stage (cfg1.slots t 3)
abbrev ms1_4 (t : Fin cfg1.N) : Memref sig .tc .vmem S832x416 .f32 := win1_4.stage (cfg1.slots t 4)
abbrev ms1_5 (t : Fin cfg1.N) : Memref sig .tc .vmem S1x416 .f32 := win1_5.stage (cfg1.slots t 5)
abbrev ms1_6 (t : Fin cfg1.N) : Memref sig .tc .vmem S416x128 .f32 := win1_6.stage (cfg1.slots t 6)
abbrev ms1_7 (t : Fin cfg1.N) : Memref sig .tc .vmem S1x128 .f32 := win1_7.stage (cfg1.slots t 7)
abbrev ms1_8 (t : Fin cfg1.N) : Memref sig .tc .vmem S4096x128 .f32 := win1_8.stage (cfg1.slots t 8)

/-- What the body is called with at point `t`, -/
def pre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def post1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t))

set_option maxHeartbeats 1000000 in
/-- The body at any point. -/
theorem sound1 (c : Dev nD) (t : Fin cfg1.N) :
    pre1 V c t ⊢ wp frame (wpE (defs₀ (F := F)) Variants.none c none) Set.univ (bodyAt1 t) (fun _ => post1 V c t) := by
  unfold pre1 post1 bodyAt1
  simp only [dat1_before0, dat1_before1, dat1_before2, dat1_before3, dat1_before4, dat1_before5, dat1_before6, dat1_before7]
  rw [show (dat1 V c).owesAt () t.succ = (dat1 V c).owesAt () t.castSucc from rfl,
    dat1_after0, dat1_after1, dat1_after2, dat1_after3, dat1_after4, dat1_after5, dat1_after6, dat1_after7, dat1_after8,
    show (dat1 V c).Φ t.succ = inv1 V c (t.val + 1) t.isLt from rfl, inv1_pos V c _ _ (Nat.succ_ne_zero _),
    show (dat1 V c).Φ t.castSucc = inv1 V c t.val (Nat.le_of_lt t.isLt) from rfl]
  by_cases h0 : t.val = 0
  · obtain rfl : t = t1_0 := Fin.ext h0
    rw [inv1_zero V c _ _ h0]
    refine (sep_mono (entry_split c) .rfl).trans ?_
    unfold outAt mAt
    iintro ⟨⟨HR, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (main_first c (grid1.coords t1_0) _ _ _ _ _ _ _ _ _ _ _ _ _ _ _ _ _ _ _ _ _ _ ((fills_iff t1_0).mpr h0) (blk1 V c 0 t1_0) (blk1 V c 1 t1_0) (blk1 V c 2 t1_0) (blk1 V c 3 t1_0) (blk1 V c 4 t1_0) (blk1 V c 5 t1_0) (blk1 V c 6 t1_0) (blk1 V c 7 t1_0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, H8, HS0, HS1⟩
    isplitl [HR HS0 HS1 Hg]
    · isplitl [HR]; · iexact HR
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [inv1_pos V c _ _ h0]
    unfold outAt
    iintro ⟨⟨HR, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (main_later c (grid1.coords t) _ _ _ _ _ _ _ _ _ _ _ _ _ _ _ _ _ _ _ _ _ _ (fun h => h0 ((fills_iff t).mp h)) (blk1 V c 0 t) (blk1 V c 1 t) (blk1 V c 2 t) (blk1 V c 3 t) (blk1 V c 4 t) (blk1 V c 5 t) (blk1 V c 6 t) (blk1 V c 7 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, H8, HS0, HS1⟩
    isplitl [HR HS0 HS1 Hg]
    · isplitl [HR]; · iexact HR
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body obligation of the second region. -/
theorem obligation1 (c : Dev nD) : BodyObligation (dat1 V c) (defs₀ (F := F)) Variants.none () Set.univ := fun t => by
  rw [bigSep_W1, bigSep_W1, show defs₀ (F := F) .tc cfg1.body (cfg1.bodyArgs t (cfg1.slots t)) = bodyAt1 t from by
    unfold defs₀; rw [Defs.onTc_tc]]
  exact triple_restated (sound1 V c t) rfl .rfl fun _ => .rfl

/-- The invariant after the last point gives back what the region was entered with. -/
theorem inv1_last (c : Dev nD) : (dat1 V c).Φ (Fin.last cfg1.N) ⊢ Pipeline.ΦA spec1 c := by
  rw [show (dat1 V c).Φ (Fin.last cfg1.N) = inv1 V c cfg1.N (Nat.le_refl _) from rfl,
    inv1_pos V c _ _ (by rw [show cfg1.N = 4 from N_1]; decide)]
  refine .trans ?_ (entry_join c)
  iintro ⟨HR, HS0, HS1, Hg⟩
  isplitl [HR]; · iexact HR
  isplitl [HS0]; · iexists _; iexact HS0
  isplitl [HS1]; · iexists _; iexact HS1
  iexact Hg

end Cert.KernelIdeal.Run

end
-- ==== Proof.KernelIdeal.Run.lean ====
/- The launch: the two regions in sequence after the host operations, and the run of the whole program with its result
   named. -/
module

public import proofs.«01_k».proof.Proof.KernelIdeal.Region0
public import proofs.«01_k».proof.Proof.KernelIdeal.Region1
public import Idealize.ShloMosaic.Lib.Pipeline.RegionArrays
public import Idealize.ShloMosaic.Lib.Claim
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose Seg RegionSeg cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the regions leave -/

/-- The first region's array of minima. -/
def minima (c : Dev nD) : Buf (Elt F) ((c : Thread nD τ).loc main_v5) := (dat0 (V3 m) c).arrAt 1 cfg0.N

/-- The buffers when the second region is entered. -/
abbrev Vmid (c : Dev nD) : Valuation τ sig (Elt F) := Function.update (V3 m c) main_v5 (minima m c)

/-- The program's result. -/
def result (c : Dev nD) : Buf (Elt F) ((c : Thread nD τ).loc main_v6) := (dat1 (Vmid m) c).arrAt 8 cfg1.N

/-- The buffers at the end. -/
abbrev Vend (c : Dev nD) : Valuation τ sig (Elt F) := Function.update (Vmid m c) main_v6 (result m c)

/-- Both regions' proof data. -/
def pdats : (p : Fin 2) → (c : Dev nD) → Dat τ (Elt F) Unit ℕ (UR sig nD τ) ℕ (cfgs p) c
  | ⟨0, _⟩ => dat0 (V3 m)
  | ⟨1, _⟩ => dat1 (Vmid m)

/-! ## The regions' records -/

/-- No index is assigned at any cell: the program waits on its own staging only. -/
abbrev L₀ : GSem nD τ sig → Finset Unit := fun _ => ∅
abbrev lv₀ : GSem nD τ sig → Unit → ℕ := fun _ _ => 0

/-- What rides beside the buffers throughout: the generator register and a core that owes nothing. -/
def rest (c : Dev nD) : sProp 𝕄 :=
  iprop((∃ r, prngReg c r) ∗ ∃ W, owes (c : Thread nD τ) (0 : CellTallies nD τ sig Unit) W)

/-- A region's record from its body obligation: entered with every unscoped buffer at `W` and left with them at `W'`,
    which agrees with `W` off the windows' arrays and has those at their final contents. -/
def record (p : Fin 2) (kit : Pipeline.LaunchFacts (nD := nD) (τ := τ) cfgs p)
    (hbody : ∀ c, BodyObligation (pdats m p c) (defs₀ (F := F)) Variants.none () Set.univ)
    (howed : ∀ c t, (pdats m p c).owed t = 0) (hrec : ∀ c, (pdats m p c).recorded 0 = Set.univ)
    (hshare : ∀ c w, (pdats m p c).share w = fullShare)
    (hin : ∀ c, Pipeline.ΦA (cfgs p).spec c ⊢ (pdats m p c).Φ 0)
    (hout : ∀ c, (pdats m p c).Φ (Fin.last (cfgs p).N) ⊢ Pipeline.ΦA (cfgs p).spec c)
    (W W' : Dev nD → Valuation τ sig (Elt F))
    (hW : ∀ c w, (pdats m p c).arrAt w 0 = W c (Proc.devRef .tc (Pipeline.arrRef (cfgs p).spec w)))
    (hW' : ∀ c w, (pdats m p c).arrAt w (cfgs p).N = W' c (Proc.devRef .tc (Pipeline.arrRef (cfgs p).spec w)))
    (hoff : ∀ c, ∀ b ∈ Pipeline.ucRefs τ sig \ Pipeline.arrRefs (cfgs p).spec, W c b = W' c b) :
    RegionSeg (pcfgs (F := F)) adm (pdats m) () defs₀ Variants.none L₀ lv₀ p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ L₀ lv₀ p howed
  pre c := iprop(StableHlo.held (c : Thread nD τ) (Pipeline.ucRefs τ sig) (W c) ∗ rest c)
  post c := iprop(StableHlo.held (c : Thread nD τ) (Pipeline.ucRefs τ sig) (W' c) ∗ rest c)
  X c := iprop(∃ r, prngReg c r)
  Y c := iprop(∃ r, prngReg c r)
  Z c := StableHlo.held (c : Thread nD τ) (Pipeline.ucRefs τ sig \ Pipeline.arrRefs (cfgs p).spec) (W c)
  hentry c := by
    rw [StableHlo.held_sub_split (c : Thread nD τ) (Pipeline.arrRefs_sub_ucRefs (cfgs p).spec kit.win.arr_unscoped) (W c),
      ← Pipeline.arrays_held (pcfgs (F := F)) adm (pdats m) p kit.toP c (hshare c) ((pdats m p c).arrAt · 0) (W c) (hW c),
      Pipeline.ownSems0_none, Pipeline.prefHeld_of_none _ rfl]
    unfold rest
    iintro ⟨⟨⟨Ha, Hz⟩, Hg, HO⟩, -, -⟩
    imodintro
    isplitl [Ha]; · iexact Ha
    isplitr; · iempintro
    isplitl [HO]
    · unfold Pipeline.Dat.owesAt Pipeline.owesWithin Pipeline.Dat.bound
      rw [howed c 0, hrec c]
      icases HO with ⟨%W, HO⟩; iexists W; isplitr; · ipureintro; exact fun _ _ => Or.inl trivial
      iexact HO
    isplitl [Hg]; · iexact Hg
    iexact Hz
  hin c := by
    refine .trans ?_ (hin c)
    unfold Pipeline.ΦA
    iintro ⟨Hg, -, Hr⟩
    isplitl [Hr]; · iexact Hr
    iexact Hg
  hout c := by
    refine (hout c).trans ?_
    rw [Pipeline.ownSems0_none]
    unfold Pipeline.ΦA
    iintro ⟨Hr, Hg⟩
    isplitl [Hg]; · iexact Hg
    isplitr; · iempintro
    iexact Hr
  hexit c := by
    rw [StableHlo.held_sub_split (c : Thread nD τ) (Pipeline.arrRefs_sub_ucRefs (cfgs p).spec kit.win.arr_unscoped) (W' c),
      StableHlo.held_congr (c : Thread nD τ) (hoff c)]
    have ha := Pipeline.arrays_held (pcfgs (F := F)) adm (pdats m) p kit.toP c (hshare c)
      ((pdats m p c).arrAt · (cfgs p).N) (W' c) (hW' c)
    unfold rest
    iintro ⟨Ha, HO, Hg, Hz⟩
    imodintro
    isplitl [Ha Hz]
    · isplitl [Ha]
      · iapply (Entails.of_eq ha); iexact Ha
      iexact Hz
    isplitl [Hg]; · iexact Hg
    unfold Pipeline.Dat.owesAt Pipeline.owesWithin
    rw [howed c (Fin.last _)]
    icases HO with ⟨%W, -, HO⟩; iexists W; iexact HO

/-- A buffer the second valuation does not overwrite is unchanged by the first region. -/
theorem Vmid_of (c : Dev nD) (b : DevRef τ sig) (h : b ≠ Proc.devRef .tc main_v5) : Vmid m c b = V3 m c b :=
  Function.update_of_ne h _ _

theorem Vend_of (c : Dev nD) (b : DevRef τ sig) (h : b ≠ Proc.devRef .tc main_v6) : Vend m c b = Vmid m c b :=
  Function.update_of_ne h _ _

/-- A window's array is one of the arrays. -/
theorem mem_arrRefs {gr W : Nat} (win : Fin W → Pipeline.WinSpec sig gr) (w : Fin W) :
    Proc.devRef .tc (Pipeline.arrRef win w) ∈ Pipeline.arrRefs (τ := τ) win :=
  Finset.mem_map.mpr ⟨_, Finset.mem_image_of_mem _ (Finset.mem_univ w), rfl⟩

/-- The first region's record. -/
def rec0 : RegionSeg (pcfgs (F := F)) adm (pdats m) () defs₀ Variants.none L₀ lv₀ 0 :=
  record m 0 launch0 (obligation0 (V3 m)) (fun _ _ => rfl) (fun _ => rfl) (fun c => (dat0 (V3 m) c).share_full fun _ => rfl)
    (fun _ => .rfl) (fun _ => .rfl) (V3 m) (Vmid m) (fun _ _ => rfl)
    (fun c w => by
      match w with
      | ⟨0, _⟩ => exact ((dat0 (V3 m) c).arrAt_in 0 rfl _).trans (Vmid_of m c (Proc.devRef .tc main_arg0) (by decide)).symm
      | ⟨1, _⟩ => exact (Function.update_self (Proc.devRef .tc main_v5) (minima m c) (V3 m c)).symm)
    (fun c b hb => (Vmid_of m c b fun h => (Finset.mem_sdiff.mp hb).2 (h ▸ mem_arrRefs spec0 1)).symm)

/-- The second region's record. -/
def rec1 : RegionSeg (pcfgs (F := F)) adm (pdats m) () defs₀ Variants.none L₀ lv₀ 1 :=
  record m 1 launch1 (obligation1 (Vmid m)) (fun _ _ => rfl) (fun _ => rfl) (fun c => (dat1 (Vmid m) c).share_full fun _ => rfl)
    (fun _ => .rfl) (inv1_last (Vmid m)) (Vmid m) (Vend m) (fun _ _ => rfl)
    (fun c w => by
      by_cases h8 : w = 8
      · subst h8; exact (Function.update_self (Proc.devRef .tc main_v6) (result m c) (Vmid m c)).symm
      · refine ((dat1 (Vmid m) c).arrAt_in w ?_ _).trans (Vend_of m c _ ?_).symm
        · revert h8; revert w; decide
        · revert h8; revert w; decide)
    (fun c b hb => (Vend_of m c b fun h => (Finset.mem_sdiff.mp hb).2 (h ▸ mem_arrRefs spec1 8)).symm)

/-! ## The launch -/

/-- The regions' results as the generated valuations take them. -/
def outs : Outs (F := F) := fun j r c => if h : r = main_v5 then h ▸ minima m c else if h : r = main_v6 then h ▸ result m c else m (c, r)

theorem V4_eq : V4 m (outs m) = Vmid m := rfl
theorem V5_eq : V5 m (outs m) = Vend m := rfl

set_option backward.isDefEq.respectTransparency.types false in
/-- Every weakly fair execution terminates, with every unscoped buffer at the final valuation and every counter at zero. -/
theorem run : θ_run defs (onTc (τ := τ) (main (F := F))) ⟨m, fun _ => 0, ρ⟩ (fun r =>
    (∀ c : Dev nD, ∀ b ∈ Pipeline.ucRefs τ sig, r.2.mem (c, b) = Vend m c b) ∧ r.2.sem = fun _ => 0) := by
  refine Pipeline.θ_run_regions_kit_dev_sems (pcfgs (F := F)) adm (pdats m) () cellOf_inj emb₁ defs₀ Variants.none L₀ lv₀ m ρ main
    (segs m Variants.none L₀ lv₀ (fun _ => rest) () (pdats m) (rec0 m) (rec1 m))
    (fun c Q => by
      rewrite [main_chain c, Seg.run_eq_chain,
        show (segs m Variants.none L₀ lv₀ (fun _ => rest) () (pdats m) (rec0 m) (rec1 m) c).map Seg.prog = [
          StableHlo.seq hostOps0, StableHlo.seq hostOps0_1, StableHlo.seq hostOps0_2,
          Prog.lift (.customCall (Pipeline.entry 0) ()), Prog.lift (.customCall (Pipeline.entry 1) ()) ] from rfl]
      dsimp (config := { failIfUnchanged := false }) only
      exact .rfl)
    (fun c => by simp only [segs, Seg.pipes_host, Seg.pipes_region, Seg.pipes_nil]; decide) 0 (fun _ _ => rfl)
    (fun _ => iprop(emp)) (initOf (Pipeline.cells cfgs cellOf_inj) (Pipeline.launchToks cfgs cellOf_inj)) ?_
    (T₀ := fun c => iprop(StableHlo.held (c : Thread nD τ) (Pipeline.ucRefs τ sig) (V0 m c) ∗ rest c))
    (Tₙ := fun c => StableHlo.held (c : Thread nD τ) (Pipeline.ucRefs τ sig) (Vend m c))
    (hch := fun c => ⟨.rfl, .rfl, .rfl, .rfl, .rfl, sep_mono .rfl ?_⟩)
    (hinit := ?_) (QY := fun c s => ∀ b ∈ Pipeline.ucRefs τ sig, s.mem (c, b) = Vend m c b)
    (hfin := fun c s' => ?_) (hQ := fun _ h hz => ⟨h, funext fun g => hz g (.inr (regions_no_unscoped g.2))⟩)
  · iintro Hu
    imodintro
    isplitl [Hu]
    · iapply (show (ownU (initOf (Pipeline.cells cfgs cellOf_inj) (Pipeline.launchToks cfgs cellOf_inj)) : sProp 𝕄)
        ⊢ BI.own (emb₁ (initOf (Pipeline.cells (Pipeline.pin (pcfgs (F := F)) adm) cellOf_inj)
          (Pipeline.launchToks (Pipeline.pin (pcfgs (F := F)) adm) cellOf_inj))) from .rfl)
      iexact Hu
    iapply (show (BI.emp : sProp 𝕄) ⊢ bigSep Finset.univ (fun _ : Dev nD => (BI.emp : sProp 𝕄)) from by rw [BI.bigSep_emp_const])
    iempintro
  · unfold rest; iintro ⟨-, H⟩; iexact H
  · refine Pipeline.initEach L₀ lv₀ fun c => ?_
    rw [show unscopedBufs c (fun b => m ((c : Thread nD τ).loc b)) = StableHlo.held (c : Thread nD τ) (Pipeline.ucRefs τ sig) (V0 m c)
      from Pipeline.unscopedBufs_held c (V0 m c)]
    unfold rest
    iintro ⟨⟨Hh, -, HO, -, Hg, -⟩, -⟩
    imodintro
    isplitl [Hh]; · iexact Hh
    isplitl [Hg]; · iexists _; iexact Hg
    iexists ∅; iexact HO
  · unfold StableHlo.held
    iintro ⟨Hh, HSI⟩
    ihave Hr := (pointsTo_read_all (Pipeline.ucRefs τ sig) (fun b => ((c : Thread nD τ).1, b)) (Vend m c) s') $$ [Hh HSI]
    · isplitl [Hh] <;> iassumption
    icases Hr with ⟨%h, HSI⟩
    imodintro
    isplitr; · ipureintro; exact h
    iexact HSI

/-- What a final state says of an unscoped buffer of the TensorCore. -/
theorem mem_uc (r : Ref sig .tc) (h : r.isScoped = false) : Proc.devRef .tc r ∈ Pipeline.ucRefs τ sig :=
  Finset.mem_filter.mpr ⟨StableHlo.devRef_mem_tcRefs r, fun h' => Bool.false_ne_true (h.symm.trans h')⟩

/-- THE VALUE RUN: every weakly fair execution terminates with the result at `result`, every argument as launched and
    every counter at zero. -/
theorem run_value : θ_run defs (onTc (τ := τ) (main (F := F))) ⟨m, fun _ => 0, ρ⟩ (fun r => (∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    ⟨(h.1 c _ (mem_uc main_v6 rfl)).trans (Function.update_self (Proc.devRef .tc main_v6) (result m c) (Vmid m c)),
      (h.1 c _ (mem_uc main_arg0 rfl)).trans (V5_main_arg0 m (outs m) c), (h.1 c _ (mem_uc main_arg1 rfl)).trans (V5_main_arg1 m (outs m) c),
      (h.1 c _ (mem_uc main_arg2 rfl)).trans (V5_main_arg2 m (outs m) c), (h.1 c _ (mem_uc main_arg3 rfl)).trans (V5_main_arg3 m (outs m) c),
      (h.1 c _ (mem_uc main_arg4 rfl)).trans (V5_main_arg4 m (outs m) c), (h.1 c _ (mem_uc main_arg5 rfl)).trans (V5_main_arg5 m (outs m) c)⟩, h.2⟩)
    (run m ρ)

/-- THE FRAME: every weakly fair execution terminates with every argument as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩) (run_value m ρ)

end Cert.KernelIdeal.Run

end
-- ==== Proof.Frames.lean ====
/- The three frames and the idealization's ledger, from the runs. -/
module

public import proofs.«01_k».proof.Defs
public import proofs.«01_k».proof.Proof.Kernel.Run
public import proofs.«01_k».proof.Proof.KernelIdeal.Run
public import proofs.«01_k».proof.Proof.Gen.ReferenceIdeal.Run
public import Idealize.ShloMosaic.Lib.Quiescent
public import Idealize.ShloMosaic.PureOps.IdealRules

@[expose] public section

noncomputable section

open Idealize.ShloMosaic Idealize.ShloMosaic.TcCoe Idealize.SL.Sem

namespace Cert.Proof

/-- The kernel terminates with its arguments unchanged and every counter at zero. -/
theorem frame_p : Cert.quiescent_Kernel := fun m ρ _ => Cert.Kernel.Run.frame m ρ

/-- The idealized kernel terminates with its arguments unchanged and every counter at zero. -/
theorem frame_pi : Cert.quiescent_KernelIdeal := fun m ρ _ => Cert.KernelIdeal.Run.frame m ρ

/-- The reference terminates with its arguments unchanged and every counter at zero. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The one named constant is the reciprocal of the root of two. -/
theorem preserves : Cert.preserves_Kernel_KernelIdeal :=
  IdealRules.named_const.statement Cert.KernelIdeal.κ "inv_sqrt2" .f32 0x3F3504F3#32 (((Real.sqrt 2)⁻¹ : ℝ) : EReal) rfl

end Cert.Proof

end
-- ==== Proof.Spec.lean ====
/- The mathematics both programs compute, over the extended reals: the bin of an activation among its field's
   thresholds, and the sum a one-hot row times a masked matrix collapses to. Nothing here mentions a program. -/
module

public import Mathlib.Data.EReal.Operations
public import Mathlib.Data.EReal.Inv
public import Mathlib.Data.Fintype.BigOperators
public import Mathlib.Algebra.BigOperators.Fin
public import Mathlib.Algebra.BigOperators.Ring.Finset
public import Mathlib.Order.CompleteLattice.Finset
public import Mathlib.Data.Fintype.Lattice

@[expose] public section

noncomputable section

namespace Cert.Spec

/-! ## Minima and maxima -/

/-- A fold of `min` from `⊤` over all indices is the infimum. -/
theorem fold_min_top {n : ℕ} (f : Fin n → EReal) : Finset.univ.fold min ⊤ f = ⨅ k, f k :=
  Finset.inf_univ_eq_iInf f

/-- A fold of `max` from `⊥` over all indices is the supremum. -/
theorem fold_max_bot {n : ℕ} (f : Fin n → EReal) : Finset.univ.fold max ⊥ f = ⨆ k, f k :=
  Finset.sup_univ_eq_iSup f

/-- The infimum over all rows is the least of the infima over the four blocks of 4096 rows. -/
theorem iInf_blocks (f : Fin 16384 → EReal) (g : Fin 4 → Fin 4096 → EReal)
    (h : ∀ (b : Fin 4) (r : Fin 4096) (hr : 4096 * b.val + r.val < 16384), g b r = f ⟨4096 * b.val + r.val, hr⟩) :
    min (⨅ r, g 3 r) (min (⨅ r, g 2 r) (min (⨅ r, g 1 r) (⨅ r, g 0 r))) = ⨅ k, f k := by
  have hb : ∀ b : Fin 4, (⨅ k, f k) ≤ ⨅ r, g b r := fun b => le_iInf fun r => by
    rw [h b r (by omega)]; exact iInf_le _ _
  refine le_antisymm (le_iInf fun k => ?_) (le_min (hb 3) (le_min (hb 2) (le_min (hb 1) (hb 0))))
  have hk := k.isLt
  have hle : ∀ b : Fin 4, b.val = k.val / 4096 → (⨅ r, g b r) ≤ f k := fun b e => by
    refine (iInf_le _ (⟨k.val % 4096, Nat.mod_lt _ (by decide)⟩ : Fin 4096)).trans (le_of_eq ?_)
    rw [h b _ (by simp only; omega)]
    exact congrArg f (Fin.ext (by simp only; omega))
  have h4 : k.val / 4096 = 0 ∨ k.val / 4096 = 1 ∨ k.val / 4096 = 2 ∨ k.val / 4096 = 3 := by omega
  rcases h4 with e | e | e | e
  · exact (min_le_right _ _).trans ((min_le_right _ _).trans ((min_le_right _ _).trans (hle 0 e.symm)))
  · exact (min_le_right _ _).trans ((min_le_right _ _).trans ((min_le_left _ _).trans (hle 1 e.symm)))
  · exact (min_le_right _ _).trans ((min_le_left _ _).trans (hle 2 e.symm))
  · exact (min_le_left _ _).trans (hle 3 e.symm)

/-- The infimum of the negated values, negated, is the supremum. -/
theorem neg_iInf_neg {n : ℕ} (f : Fin n → EReal) : -(⨅ k, -f k) = ⨆ k, f k := by
  refine le_antisymm ?_ (iSup_le fun k => EReal.le_neg_of_le_neg (iInf_le _ k))
  refine EReal.neg_le_of_neg_le (le_iInf fun k => EReal.neg_le_neg_iff.mpr (le_iSup f k))

/-- The negated supremum is the infimum of the negated values. -/
theorem neg_iSup {n : ℕ} (f : Fin n → EReal) : -(⨆ k, f k) = ⨅ k, -f k := by
  rw [← neg_iInf_neg, neg_neg]

/-- Zero minus a value is its negation. -/
theorem zero_sub_eq (x : EReal) : 0 - x = -x := by rw [sub_eq_add_neg, zero_add]

/-! ## Bins -/

/-- The bin boundary at grid time `t` of a field with least value `lo` and spread `d`. -/
def thr (lo d t : EReal) : EReal := lo + d * t

/-- How many of the boundaries past the first lie below `x`. -/
def below (t : Fin 21 → EReal) (lo d x : EReal) : ℕ := (Finset.univ.filter fun k : Fin 20 => thr lo d (t k.succ) < x).card

/-- The bin of `x`: the boundaries past the first below it, at most 19. -/
def bin (t : Fin 21 → EReal) (lo d x : EReal) : Fin 20 := ⟨min (below t lo d x) 19, by omega⟩

theorem below_le (t : Fin 21 → EReal) (lo d x : EReal) : below t lo d x ≤ 20 :=
  (Finset.card_le_univ _).trans (by simp)

/-- Counting every boundary, the first included, and taking one off gives the same bin. -/
theorem bin_eq (t : Fin 21 → EReal) (h0 : t 0 = 0) (hpos : ∀ k : Fin 20, 0 < t k.succ) (lo hi x : EReal) (hlx : lo ≤ x)
    (hlh : lo ≤ hi) :
    min ((Finset.univ.filter fun k : Fin 21 => thr lo (hi - lo) (t k) < x).card - 1) 19 = (bin t lo (hi - lo) x).val := by
  have hc : (Finset.univ.filter fun k : Fin 21 => thr lo (hi - lo) (t k) < x).card
      = (if thr lo (hi - lo) (t 0) < x then 1 else 0) + below t lo (hi - lo) x := by
    rw [Fin.card_filter_univ_succ]
    unfold below
    split <;> (try simp only [Function.comp_def]) <;> omega
  show _ = min (below t lo (hi - lo) x) 19
  rw [hc]
  by_cases hx : thr lo (hi - lo) (t 0) < x
  · rw [if_pos hx]; omega
  · rw [if_neg hx]
    have e0 : thr lo (hi - lo) (t 0) = lo := by unfold thr; rw [h0, mul_zero, add_zero]
    rw [e0] at hx
    obtain rfl : x = lo := le_antisymm (not_lt.mp hx) hlx
    by_cases htop : x = ⊤
    · subst htop
      have hall : below t ⊤ (hi - ⊤) ⊤ = 20 := by
        unfold below
        rw [Finset.filter_true_of_mem, Finset.card_univ, Fintype.card_fin]
        intro k _
        have : thr ⊤ (hi - ⊤) (t k.succ) = ⊥ := by
          unfold thr
          rw [EReal.sub_top, EReal.bot_mul_of_pos (hpos k), EReal.add_bot]
        rw [this]; exact bot_lt_top
      omega
    · have hnone : below t x (hi - x) x = 0 := by
        unfold below
        rw [Finset.card_eq_zero, Finset.filter_eq_empty_iff]
        intro k _
        rw [not_lt]
        by_cases hbot : x = ⊥
        · subst hbot; exact bot_le
        · have hd : 0 ≤ hi - x := (EReal.sub_nonneg (.inr htop) (.inr hbot)).mpr hlh
          have := add_le_add_right (mul_nonneg hd (hpos k).le) x
          unfold thr
          first
            | simpa only [add_zero] using this
            | simpa only [zero_add, add_comm] using this
      omega

/-- The 0/1 value of a proposition. -/
abbrev ind (p : Prop) [Decidable p] : EReal := if p then 1 else 0

/-- A sum of 0/1 values is the count. -/
theorem sum_ind {n : ℕ} (p : Fin n → Prop) [DecidablePred p] :
    ∑ k, ind (p k) = (((Finset.univ.filter p).card : ℕ) : EReal) := by
  simp [ind, Finset.sum_boole]

/-- The cap at 19 of a count, as an extended real. -/
theorem min_nineteen (n : ℕ) : min ((n : ℕ) : EReal) 19 = ((min n 19 : ℕ) : EReal) := by
  rcases le_total n 19 with h | h
  · rw [min_eq_left h, min_eq_left]; exact_mod_cast h
  · rw [min_eq_right h, min_eq_right]; · rfl
    · exact_mod_cast h

/-! ## One-hot sums -/

/-- A sum against a 0/1 column picks its entry. -/
theorem sum_mul_ind {n : ℕ} (f : Fin n → EReal) (i : Fin n) (p : Fin n → Prop) [DecidablePred p] (hp : ∀ k, p k ↔ k = i) :
    ∑ k, f k * ind (p k) = f i := by
  rw [Finset.sum_eq_single i]
  · rw [ind, if_pos ((hp i).mpr rfl), mul_one]
  · intro k _ hk; rw [ind, if_neg (fun h => hk ((hp k).mp h)), mul_zero]
  · intro h; exact absurd (Finset.mem_univ i) h

/-- The table row of field `c / 32` at its bin. -/
def rowOf (b : Fin 26 → Fin 20) (c : Fin 832) : Fin 520 :=
  ⟨c.val / 32 * 20 + (b ⟨c.val / 32, by omega⟩).val, by have := (b ⟨c.val / 32, by omega⟩).isLt; omega⟩

/-- A row that marks, in each field's 20 table rows, the one of its bin, times the tables masked to their own fields'
    columns and carried through the weights, is the gathered row times the weights. -/
theorem onehot_collapse (b : Fin 26 → Fin 20) (T : Fin 520 → Fin 32 → EReal) (W : Fin 832 → EReal) :
    ∑ q : Fin 520, ind ((b ⟨q.val / 20, by omega⟩).val = q.val % 20)
        * ∑ c : Fin 832, (T q ⟨c.val % 32, Nat.mod_lt _ (by decide)⟩ * ind (q.val / 20 = c.val / 32)) * W c
      = ∑ c : Fin 832, T (rowOf b c) ⟨c.val % 32, Nat.mod_lt _ (by decide)⟩ * W c := by
  have step : ∀ q : Fin 520, ind ((b ⟨q.val / 20, by omega⟩).val = q.val % 20)
        * ∑ c : Fin 832, (T q ⟨c.val % 32, Nat.mod_lt _ (by decide)⟩ * ind (q.val / 20 = c.val / 32)) * W c
      = ∑ c : Fin 832, if q = rowOf b c then T q ⟨c.val % 32, Nat.mod_lt _ (by decide)⟩ * W c else 0 := by
    intro q
    by_cases hq : (b ⟨q.val / 20, by omega⟩).val = q.val % 20
    · rw [ind, if_pos hq, one_mul]
      refine Finset.sum_congr rfl fun c _ => ?_
      by_cases hc : q.val / 20 = c.val / 32
      · rw [ind, if_pos hc, mul_one, if_pos]
        refine Fin.ext ?_
        have hq' : (b ⟨c.val / 32, by omega⟩).val = q.val % 20 := by
          rw [← hq]; exact congrArg (fun i => (b i).val) (Fin.ext hc.symm)
        show q.val = c.val / 32 * 20 + (b ⟨c.val / 32, by omega⟩).val
        rw [hq']; omega
      · rw [ind, if_neg hc, mul_zero, zero_mul, if_neg]
        intro h
        have := (b ⟨c.val / 32, by omega⟩).isLt
        have hv : q.val = c.val / 32 * 20 + (b ⟨c.val / 32, by omega⟩).val := congrArg Fin.val h
        omega
    · rw [ind, if_neg hq, zero_mul]
      refine (Finset.sum_eq_zero fun c _ => if_neg ?_).symm
      intro h
      have hv : q.val = c.val / 32 * 20 + (b ⟨c.val / 32, by omega⟩).val := congrArg Fin.val h
      have hlt := (b ⟨c.val / 32, by omega⟩).isLt
      refine hq ?_
      have e : (⟨q.val / 20, by omega⟩ : Fin 26) = ⟨c.val / 32, by omega⟩ := Fin.ext (by simp only; omega)
      rw [e]; omega
  rw [Finset.sum_congr rfl fun q _ => step q, Finset.sum_comm]
  refine Finset.sum_congr rfl fun c _ => ?_
  rw [Finset.sum_ite_eq' Finset.univ (rowOf b c) fun q => T q ⟨c.val % 32, Nat.mod_lt _ (by decide)⟩ * W c]
  exact if_pos (Finset.mem_univ _)

end Cert.Spec

end
-- ==== Proof.Consts.lean ====
/- The constants the two programs are written with, as the extended reals they denote. -/
module

public import Idealize.ShloMosaic.Lib.IdealHost
public import Idealize.ShloMosaic.PureOps.IdealRules

@[expose] public section

noncomputable section

namespace Cert.Consts

open Idealize.ShloMosaic

/-- The pattern of one half. -/
theorem half : Ideal.ofBits .f32 0x3F000000#32 = (((1 / 2 : ℝ)) : EReal) := by
  simp [Ideal.ofBits, Ideal.ieee, -EReal.coe_mul]; norm_num

/-- The pattern of two. -/
theorem two : Ideal.ofBits .f32 0x40000000#32 = ((2 : ℝ) : EReal) := by
  simp [Ideal.ofBits, Ideal.ieee, -EReal.coe_mul]; norm_num

/-- The pattern of nineteen. -/
theorem nineteen : Ideal.ofBits .f32 0x41980000#32 = ((19 : ℕ) : EReal) := by
  simp [Ideal.ofBits, Ideal.ieee, -EReal.coe_mul]; norm_num; first | rfl | norm_cast

/-- The pattern of twenty. -/
theorem twenty : Ideal.ofBits .f32 0x41A00000#32 = ((20 : ℝ) : EReal) := by
  simp [Ideal.ofBits, Ideal.ieee, -EReal.coe_mul]; norm_num

/-- The pattern of plus infinity. -/
theorem posInf : Ideal.ofBits .f32 0x7F800000#32 = ⊤ := by
  simp [Ideal.ofBits, Ideal.ieee]

/-- The pattern of minus infinity. -/
theorem negInf : Ideal.ofBits .f32 0xFF800000#32 = ⊥ := by
  simp [Ideal.ofBits, Ideal.ieee]

end Cert.Consts

end
-- ==== Proof.Words.lean ====
/- The index words of the kernel's masks: its division and remainder of an iota by a literal, as the operations are
   printed, are the quotient and remainder of the natural numbers. -/
module

public import Idealize.ShloMosaic.Lib.WordCmp

@[expose] public section

namespace Cert.Words

open Idealize.ShloMosaic

/-- The word for the quotient of `x` by `d` rounded down, as the kernel computes it. -/
abbrev quot (x d : BitVec 32) : BitVec 32 :=
  Scalar.select
    (IntOp.andi
      (IntOp.cmpi .ne
        (IntOp.subi (BitVec.setWidth 32 (IntOp.cmpi .sgt x 0#32)) (BitVec.setWidth 32 (IntOp.cmpi .slt x 0#32)))
        (Scalar.subi (Scalar.extui (Scalar.cmpi .sgt d 0#32)) (Scalar.extui (Scalar.cmpi .slt d 0#32))))
      (IntOp.cmpi .ne (IntOp.remsi .vector x d) 0#32))
    (IntOp.subi (IntOp.divsi .vector x d) 1#32) (IntOp.divsi .vector x d)

/-- The divisor, one in place of zero. -/
abbrev nonzero (d : BitVec 32) : BitVec 32 := Scalar.select (Scalar.cmpi .eq d 0#32) 1#32 d

/-- The word for the remainder of `x` by `d` of the divisor's sign, as the kernel computes it. -/
abbrev rem (x d : BitVec 32) : BitVec 32 :=
  Scalar.select
    (IntOp.andi
      (IntOp.xori (IntOp.cmpi .slt (IntOp.remsi .vector x (nonzero d)) 0#32) (Scalar.cmpi .slt (nonzero d) 0#32))
      (IntOp.cmpi .ne (IntOp.remsi .vector x (nonzero d)) 0#32))
    (IntOp.addi (IntOp.remsi .vector x (nonzero d)) (nonzero d)) (IntOp.remsi .vector x (nonzero d))

/-- The quotient of a table row by 20. -/
theorem quot_20 : ∀ q : Fin 520, quot (BitVec.ofNat 32 q.val) 20#32 = BitVec.ofNat 32 (q.val / 20) := by decide +kernel

/-- The quotient of a column by 32. -/
theorem quot_32 : ∀ c : Fin 832, quot (BitVec.ofNat 32 c.val) 32#32 = BitVec.ofNat 32 (c.val / 32) := by decide +kernel

/-- The remainder of a column by 32. -/
theorem rem_32 : ∀ c : Fin 832, rem (BitVec.ofNat 32 c.val) 32#32 = BitVec.ofNat 32 (c.val % 32) := by decide +kernel

/-- The remainder of a table row by 20. -/
theorem rem_20 : ∀ q : Fin 520, rem (BitVec.ofNat 32 q.val) 20#32 = BitVec.ofNat 32 (q.val % 20) := by decide +kernel

/-- A choice on the equality of two small index words is a choice on the numbers. -/
theorem select_eq {α : Type} (a b : ℕ) (ha : a < 1000) (hb : b < 1000) (x y : α) :
    Scalar.select (IntOp.cmpi .eq (BitVec.ofNat 32 a) (BitVec.ofNat 32 b)) x y = if a = b then x else y := by
  rw [WordCmp.cmpi_eq_ofNat (by omega) (by omega), WordCmp.select_decide]

end Cert.Words
-- ==== Proof.KerPay.lean ====
/- The kernel's stored values read at an index, over the extended reals. -/
module

public import proofs.«01_k».proof.Proof.KernelIdeal.MainVals
public import proofs.«01_k».proof.Proof.Spec
public import proofs.«01_k».proof.Proof.Consts
public import proofs.«01_k».proof.Proof.Words
public import Idealize.ShloMosaic.Lib.Pointwise
public import Idealize.ShloMosaic.Lib.WordArith

@[expose] public section

set_option maxRecDepth 16384

noncomputable section

namespace Cert.KernelIdeal.Run

open Cert.KernelIdeal.Gen Cert.Spec
open Idealize.ShloMosaic Idealize.ShloMosaic.TcCoe

/-- The first row of a block's minima: each field's least value in the block. -/
theorem minmax_apply0 (x : Vec Ideal S4096x26 .f32) (a : Fin 26) : k0_pay1 x (ix2 0 a) = ⨅ r : Fin 4096, x (ix2 r a) := by
  pointwise [k0_pay1, Cert.Consts.posInf, Cert.Consts.negInf]
  exact fold_min_top _

/-- The second row: each field's least negated value in the block. -/
theorem minmax_apply1 (x : Vec Ideal S4096x26 .f32) (a : Fin 26) : k0_pay1 x (ix2 1 a) = ⨅ r : Fin 4096, -x (ix2 r a) := by
  pointwise [k0_pay1, Cert.Consts.posInf, Cert.Consts.negInf]
  rw [fold_max_bot, zero_sub_eq, neg_iSup]

/-- A later block's minima are taken with the running ones. -/
theorem minmax_later_apply (x : Vec Ideal S4096x26 .f32) (p : Vec Ideal S2x26 .f32) (z : Fin 2) (a : Fin 26) :
    k0_pay2 x p (ix2 z a) = min (p (ix2 z a)) (k0_pay1 x (ix2 z a)) := by
  pointwise [k0_pay2]

/-- The field matrix: one where the table row belongs to the field. -/
theorem eVal_apply (a : Fin 26) (q : Fin 520) : eVal (F := Ideal) (ix2 a q) = ind (q.val / 20 = a.val) := by
  pointwise [eVal, k1_pay1]
  simp only [Cert.Words.quot_20]
  rw [Cert.Words.select_eq _ _ (by omega) (by omega)]

/-- The tables carried through the first layer's weights, each table row restricted to its own field's columns. -/
theorem mVal_apply (tab : Vec Ideal S520x32 .f32) (w1 : Vec Ideal S832x416 .f32) (q : Fin 520) (h : Fin 416) :
    mVal tab w1 (ix2 q h) = ∑ c : Fin 832, (tab (ix2 q ⟨c.val % 32, Nat.mod_lt _ (by decide)⟩) * ind (q.val / 20 = c.val / 32)) * w1 (ix2 c h) := by
  pointwise [mVal, k1_pay1, k1_pay2, k1_pay3, k1_pay4, k1_pay5, k1_pay6, k1_pay7, k1_pay8, k1_pay9, k1_pay10, dot_S520x32_S32x832_S520x832_1_0_0_1_n_n, dot_S520x832_S832x416_S520x416_1_0_0_1_n_n]
  refine Finset.sum_congr rfl fun c _ => ?_
  simp only [Cert.Words.quot_20, Cert.Words.quot_32, Cert.Words.rem_32]
  rw [Cert.Words.select_eq _ _ (by omega) (by omega), Finset.sum_eq_single (⟨c.val % 32, Nat.mod_lt _ (by decide)⟩ : Fin 32)]
  · rw [Cert.Words.select_eq _ _ (by omega) (by omega), if_pos rfl]
    by_cases e : q.val / 20 = c.val / 32
    · rw [if_pos e, ind, if_pos e, mul_one]
    · rw [if_neg e, ind, if_neg e, mul_zero, zero_mul]
  · intro k _ hk
    rw [Cert.Words.select_eq _ _ (by omega) (by omega), if_neg (fun e => hk (Fin.ext e.symm))]
  · intro hk; exact absurd (Finset.mem_univ _) hk

variable (x0 : Vec Ideal S1x21 .f32) (x1 : Vec Ideal S2x26 .f32) (x2 : Vec Ideal S4096x26 .f32)

/-- One when the boundary at grid time `k` lies below an activation, zero otherwise. -/
def mark (r : Fin 4096) (a : Fin 26) (k : Fin 21) : EReal :=
  ind (thr (x1 (ix2 0 a)) (0 - x1 (ix2 1 a) - x1 (ix2 0 a)) (x0 (ix2 0 k)) < x2 (ix2 r a))

/-- The first two boundaries past the least activation are counted by their marks. -/
theorem count2_apply (r : Fin 4096) (a : Fin 26) : count2 x0 x1 x2 (ix2 r a) = mark x0 x1 x2 r a 1 + mark x0 x1 x2 r a 2 := by
  pointwise [count2, k1_pay13, k1_pay12, k1_pay11, loRow, hiRow, timeAt]
  rfl

/-- The first six boundaries past the least activation are counted by their marks. -/
theorem count6_apply (r : Fin 4096) (a : Fin 26) : count6 x0 x1 x2 (ix2 r a)
    = count2 x0 x1 x2 (ix2 r a) + mark x0 x1 x2 r a 3 + mark x0 x1 x2 r a 4 + mark x0 x1 x2 r a 5 + mark x0 x1 x2 r a 6 := by
  pointwise [count6, k1_pay15, k1_pay14, k1_pay12, k1_pay11, loRow, hiRow, timeAt]
  rfl

/-- The first ten boundaries past the least activation are counted by their marks. -/
theorem count10_apply (r : Fin 4096) (a : Fin 26) : count10 x0 x1 x2 (ix2 r a)
    = count6 x0 x1 x2 (ix2 r a) + mark x0 x1 x2 r a 7 + mark x0 x1 x2 r a 8 + mark x0 x1 x2 r a 9 + mark x0 x1 x2 r a 10 := by
  pointwise [count10, k1_pay17, k1_pay16, k1_pay12, k1_pay11, loRow, hiRow, timeAt]
  rfl

/-- The first fourteen boundaries past the least activation are counted by their marks. -/
theorem count14_apply (r : Fin 4096) (a : Fin 26) : count14 x0 x1 x2 (ix2 r a)
    = count10 x0 x1 x2 (ix2 r a) + mark x0 x1 x2 r a 11 + mark x0 x1 x2 r a 12 + mark x0 x1 x2 r a 13 + mark x0 x1 x2 r a 14 := by
  pointwise [count14, k1_pay19, k1_pay18, k1_pay12, k1_pay11, loRow, hiRow, timeAt]
  rfl

/-- The first eighteen boundaries past the least activation are counted by their marks. -/
theorem count18_apply (r : Fin 4096) (a : Fin 26) : count18 x0 x1 x2 (ix2 r a)
    = count14 x0 x1 x2 (ix2 r a) + mark x0 x1 x2 r a 15 + mark x0 x1 x2 r a 16 + mark x0 x1 x2 r a 17 + mark x0 x1 x2 r a 18 := by
  pointwise [count18, k1_pay21, k1_pay20, k1_pay12, k1_pay11, loRow, hiRow, timeAt]
  rfl

/-- The kernel's bin of an activation. -/
def kbin (r : Fin 4096) (a : Fin 26) : Fin 20 :=
  bin (fun k => x0 (ix2 0 k)) (x1 (ix2 0 a)) (0 - x1 (ix2 1 a) - x1 (ix2 0 a)) (x2 (ix2 r a))

/-- The marks of the twenty boundaries past the first, capped at 19, are the bin. -/
theorem capped (r : Fin 4096) (a : Fin 26) :
    min (count18 x0 x1 x2 (ix2 r a) + mark x0 x1 x2 r a 19 + mark x0 x1 x2 r a 20) ((19 : ℕ) : EReal)
      = (((kbin x0 x1 x2 r a).val : ℕ) : EReal) := by
  rw [count18_apply, count14_apply, count10_apply, count6_apply, count2_apply]
  have h := sum_ind fun k : Fin 20 => thr (x1 (ix2 0 a)) (0 - x1 (ix2 1 a) - x1 (ix2 0 a)) (x0 (ix2 0 k.succ)) < x2 (ix2 r a)
  refine Eq.trans ?_ (min_nineteen _)
  refine congrArg (min · (19 : EReal)) (Eq.trans ?_ h)
  simp only [Fin.sum_univ_castSucc, Fin.sum_univ_zero, zero_add]
  rfl

/-- The mask marks, in each field's twenty table rows, the one of the activation's bin. -/
theorem hot_apply (r : Fin 4096) (q : Fin 520) : hotVal x0 x1 x2 eVal (ix2 r q)
    = BitVec.ofBool (decide ((kbin x0 x1 x2 r ⟨q.val / 20, by omega⟩).val = q.val % 20)) := by
  pointwise [hotVal, k1_pay23, k1_pay22, k1_pay12, k1_pay11, loRow, hiRow, timeAt, Cert.Consts.nineteen, eVal_apply, dot_S4096x26_S26x520_S4096x520_1_0_0_1_n_n]
  simp only [Cert.Words.rem_20]
  have hq : ∑ a : Fin 26, min (count18 x0 x1 x2 (ix2 r a) + mark x0 x1 x2 r a 19 + mark x0 x1 x2 r a 20) ((19 : ℕ) : EReal)
      * ind (q.val / 20 = a.val) = (((kbin x0 x1 x2 r ⟨q.val / 20, by omega⟩).val : ℕ) : EReal) := by
    rw [← capped]
    exact sum_mul_ind (fun a => min (count18 x0 x1 x2 (ix2 r a) + mark x0 x1 x2 r a 19 + mark x0 x1 x2 r a 20) ((19 : ℕ) : EReal)) _
      (fun a : Fin 26 => q.val / 20 = a.val) fun k => ⟨fun e => Fin.ext e.symm, fun e => (congrArg Fin.val e).symm⟩
  have hr : (FloatOps.sitofp .f32 (BitVec.ofNat 32 (q.val % 20)) : Ideal .f32) = ((q.val % 20 : ℕ) : EReal) := by
    show (((BitVec.ofNat 32 (q.val % 20)).toInt : ℝ) : EReal) = _
    rw [WordArith.toInt_ofNat_small _ (by omega)]; norm_cast
  refine congrArg BitVec.ofBool (decide_eq_decide.mpr ?_)
  rw [hr]
  refine Iff.trans (Eq.congr_left hq) ?_
  norm_cast

/-- The gaussian error unit as the kernel spells it. -/
def gelu (x : EReal) : EReal := ((1 / 2 : ℝ) : EReal) * x * (1 + Ideal.erf (x * (((Real.sqrt 2)⁻¹ : ℝ) : EReal)))

/-- The named constant is the inverse root of two. -/
theorem named_inv : (Named.named (F := Ideal) κ "inv_sqrt2" (φ := .f32) 0x3F3504F3#32) = (((Real.sqrt 2)⁻¹ : ℝ) : EReal) :=
  IdealRules.named_const.ideal_named_scalar _ _ _ _ rfl

variable (x5 : Vec Ideal S1x416 .f32) (x6 : Vec Ideal S416x128 .f32) (x7 : Vec Ideal S1x128 .f32) (mm : Vec Ideal S520x416 .bf16)

/-- The first layer's sum at a row of the block. -/
def ksum1 (r : Fin 4096) (h : Fin 416) : EReal :=
  (∑ q : Fin 520, ind ((kbin x0 x1 x2 r ⟨q.val / 20, by omega⟩).val = q.val % 20) * mm (ix2 q h)) + x5 (ix2 0 h)

/-- The stored block: the two layers of the marked rows. -/
theorem outVal_apply (r : Fin 4096) (j : Fin 128) : outVal x0 x1 x2 x5 x6 x7 eVal mm (ix2 r j)
    = gelu ((∑ h : Fin 416, gelu (ksum1 x0 x1 x2 x5 mm r h) * x6 (ix2 h j)) + x7 (ix2 0 j)) := by
  have hs : ∀ h : Fin 416, (∑ q : Fin 520, Scalar.select (hotVal x0 x1 x2 eVal (ix2 r q)) (mm (ix2 q h)) (0 : EReal)) + x5 (ix2 0 h)
      = ksum1 x0 x1 x2 x5 mm r h := by
    intro h
    refine congrArg (· + x5 (ix2 0 h)) (Finset.sum_congr rfl fun q _ => ?_)
    rw [hot_apply, WordCmp.select_decide, ind]
    split
    · rw [one_mul]
    · rw [zero_mul]
  pointwise [outVal, k1_pay24, Cert.Consts.half, dot_S4096x520_S520x416_S4096x416_1_0_0_1_n_n, dot_S4096x416_S416x128_S4096x128_1_0_0_1_n_n, named_inv]
  simp only [hs]
  rfl

end Cert.KernelIdeal.Run

end
-- ==== Proof.KerArrays.lean ====
/- The kernel's blocks read at an index, and the two regions' arrays after the run. -/
module

public import proofs.«01_k».proof.Proof.KernelIdeal.Run
public import proofs.«01_k».proof.Proof.KerPay
public import Idealize.ShloMosaic.Lib.Pipeline.Value

@[expose] public section

set_option maxRecDepth 16384

noncomputable section

namespace Cert.KernelIdeal.Run

open Cert.KernelIdeal.Gen Cert.Spec
open Idealize.ShloMosaic Idealize.ShloMosaic.TcCoe Idealize.SL.Sem
open Idealize.ShloMosaic.Pipeline (Dat)

section blocks

variable {F : FTy → Type} [FloatOps F] [Named F] (V : Dev nD → Valuation τ sig (Elt F))

/-! ## Blocks -/

/-- The first region's input block index at every point. -/
theorem index0_0 : ∀ t : Fin cfg0.N, win0_0.index t 0 = t.val ∧ win0_0.index t 1 = 0 :=
  (by decide +kernel : ∀ t : Fin grid0.N, win0_0.index t 0 = t.val ∧ win0_0.index t 1 = 0)

/-- The second region's activation block index at every point. -/
theorem index1_2 : ∀ t : Fin cfg1.N, win1_2.index t 0 = t.val ∧ win1_2.index t 1 = 0 :=
  (by decide +kernel : ∀ t : Fin grid1.N, win1_2.index t 0 = t.val ∧ win1_2.index t 1 = 0)

/-- The second region's result block index at every point. -/
theorem index1_8 : ∀ t : Fin cfg1.N, win1_8.index t 0 = t.val ∧ win1_8.index t 1 = 0 :=
  (by decide +kernel : ∀ t : Fin grid1.N, win1_8.index t 0 = t.val ∧ win1_8.index t 1 = 0)

theorem lt0 (t : Fin cfg0.N) : t.val < 4 := Nat.lt_of_lt_of_eq t.isLt N_0
theorem lt1 (t : Fin cfg1.N) : t.val < 4 := Nat.lt_of_lt_of_eq t.isLt N_1

/-- Row `r` of the first region's block `t` is row `4096 t + r` of the activations. -/
theorem blk0_apply (c : Dev nD) (t : Fin cfg0.N) (r : Fin 4096) (a : Fin 26) (h : 4096 * t.val + r.val < 16384) :
    (blk0 V c 0 t : Vec F S4096x26 .f32) (ix2 r a) = (V c main_arg0 : Vec F S16384x26 .f32) (ix2 ⟨4096 * t.val + r.val, h⟩ a) := by
  obtain ⟨h0, h1⟩ := index0_0 t
  unfold blk0
  rw [View.read_apply]
  show (V c main_arg0 : Vec F S16384x26 .f32) _ = _
  congr 1
  funext d
  apply Fin.ext
  match d with
  | ⟨0, _⟩ => show win0_0.index t 0 * 4096 + 1 * r.val = 4096 * t.val + r.val; rw [h0]; omega
  | ⟨1, _⟩ => show win0_0.index t 1 * 26 + 1 * a.val = a.val; rw [h1]; omega

/-- Row `r` of the second region's block `t` is row `4096 t + r` of the activations. -/
theorem blk1_apply2 (c : Dev nD) (t : Fin cfg1.N) (r : Fin 4096) (a : Fin 26) (h : 4096 * t.val + r.val < 16384) :
    (blk1 V c 2 t : Vec F S4096x26 .f32) (ix2 r a) = (V c main_arg0 : Vec F S16384x26 .f32) (ix2 ⟨4096 * t.val + r.val, h⟩ a) := by
  obtain ⟨h0, h1⟩ := index1_2 t
  unfold blk1
  rw [View.read_apply]
  show (V c main_arg0 : Vec F S16384x26 .f32) _ = _
  congr 1
  funext d
  apply Fin.ext
  match d with
  | ⟨0, _⟩ => show win1_2.index t 0 * 4096 + 1 * r.val = 4096 * t.val + r.val; rw [h0]; omega
  | ⟨1, _⟩ => show win1_2.index t 1 * 26 + 1 * a.val = a.val; rw [h1]; omega

/-- The other inputs' windows are their whole arrays at every point. -/
theorem index1_whole : ∀ t : Fin cfg1.N, (∀ a, win1_0.index t a = 0) ∧ (∀ a, win1_1.index t a = 0) ∧ (∀ a, win1_3.index t a = 0)
    ∧ (∀ a, win1_4.index t a = 0) ∧ (∀ a, win1_5.index t a = 0) ∧ (∀ a, win1_6.index t a = 0) ∧ (∀ a, win1_7.index t a = 0) :=
  (by decide +kernel : ∀ t : Fin grid1.N, (∀ a, win1_0.index t a = 0) ∧ (∀ a, win1_1.index t a = 0) ∧ (∀ a, win1_3.index t a = 0)
    ∧ (∀ a, win1_4.index t a = 0) ∧ (∀ a, win1_5.index t a = 0) ∧ (∀ a, win1_6.index t a = 0) ∧ (∀ a, win1_7.index t a = 0))

theorem blk1_0 (c : Dev nD) (t : Fin cfg1.N) : (blk1 V c 0 t : Vec F S1x21 .f32) = V c main_v2 := by
  have h : (fun a => win1_0.index t a * main_v2.ty.shape.size a) = fun _ => 0 := funext fun a => by rw [(index1_whole t).1 a, Nat.zero_mul]
  exact Memref.read_access_unit_zero (Elt F) main_v2 h (fun a => by rw [congrFun h a]; simp) (V c main_v2)
theorem blk1_1 (c : Dev nD) (t : Fin cfg1.N) : (blk1 V c 1 t : Vec F S2x26 .f32) = V c main_v5 := by
  have h : (fun a => win1_1.index t a * main_v5.ty.shape.size a) = fun _ => 0 := funext fun a => by rw [(index1_whole t).2.1 a, Nat.zero_mul]
  exact Memref.read_access_unit_zero (Elt F) main_v5 h (fun a => by rw [congrFun h a]; simp) (V c main_v5)
theorem blk1_3 (c : Dev nD) (t : Fin cfg1.N) : (blk1 V c 3 t : Vec F S520x32 .f32) = V c main_v0 := by
  have h : (fun a => win1_3.index t a * main_v0.ty.shape.size a) = fun _ => 0 := funext fun a => by rw [(index1_whole t).2.2.1 a, Nat.zero_mul]
  exact Memref.read_access_unit_zero (Elt F) main_v0 h (fun a => by rw [congrFun h a]; simp) (V c main_v0)
theorem blk1_4 (c : Dev nD) (t : Fin cfg1.N) : (blk1 V c 4 t : Vec F S832x416 .f32) = V c main_arg2 := by
  have h : (fun a => win1_4.index t a * main_arg2.ty.shape.size a) = fun _ => 0 := funext fun a => by rw [(index1_whole t).2.2.2.1 a, Nat.zero_mul]
  exact Memref.read_access_unit_zero (Elt F) main_arg2 h (fun a => by rw [congrFun h a]; simp) (V c main_arg2)
theorem blk1_5 (c : Dev nD) (t : Fin cfg1.N) : (blk1 V c 5 t : Vec F S1x416 .f32) = V c main_v3 := by
  have h : (fun a => win1_5.index t a * main_v3.ty.shape.size a) = fun _ => 0 := funext fun a => by rw [(index1_whole t).2.2.2.2.1 a, Nat.zero_mul]
  exact Memref.read_access_unit_zero (Elt F) main_v3 h (fun a => by rw [congrFun h a]; simp) (V c main_v3)
theorem blk1_6 (c : Dev nD) (t : Fin cfg1.N) : (blk1 V c 6 t : Vec F S416x128 .f32) = V c main_arg4 := by
  have h : (fun a => win1_6.index t a * main_arg4.ty.shape.size a) = fun _ => 0 := funext fun a => by rw [(index1_whole t).2.2.2.2.2.1 a, Nat.zero_mul]
  exact Memref.read_access_unit_zero (Elt F) main_arg4 h (fun a => by rw [congrFun h a]; simp) (V c main_arg4)
theorem blk1_7 (c : Dev nD) (t : Fin cfg1.N) : (blk1 V c 7 t : Vec F S1x128 .f32) = V c main_v4 := by
  have h : (fun a => win1_7.index t a * main_v4.ty.shape.size a) = fun _ => 0 := funext fun a => by rw [(index1_whole t).2.2.2.2.2.2 a, Nat.zero_mul]
  exact Memref.read_access_unit_zero (Elt F) main_v4 h (fun a => by rw [congrFun h a]; simp) (V c main_v4)

/-! ## The arrays after the regions -/

/-- The first region's one write-back, at the last point, writes the minima over all blocks. -/
theorem flushed0_1 (c : Dev nD) (t : Fin cfg0.N) (hf : (cfg0.win 1).flush t = true) :
    (dat0 V c).flushed 1 t = ((cfg0.win 1).blk t).view.read (Elt F) (acc V c 3 t0_3.isLt : Buf (Elt F) ((c : Thread nD τ).loc main_v5)) := by
  have h3 : t.val = 3 := by have := (flush0_1 t).mp hf; have := lt0 t; omega
  obtain rfl : t = t0_3 := Fin.ext h3
  show (cfg0.win 1).cut (grid0.coords t0_3) ((dat0 V c).after 1 t0_3) = _
  rw [dat0_after1]
  have hz' : (fun a => win0_1.index t0_3 a * main_v5.ty.shape.size a) = fun _ => 0 := funext fun a => by fin_cases a <;> decide
  exact (Memref.read_access_unit_zero (Elt F) main_v5 hz' (fun a => by rw [congrFun hz' a]; simp) _).symm

/-- So the first region leaves the minima after its last point. -/
theorem final0 (c : Dev nD) : (dat0 V c).arrAt 1 cfg0.N = (acc V c 3 t0_3.isLt : Buf (Elt F) ((c : Thread nD τ).loc main_v5)) :=
  (dat0 V c).arrAt_eq_of_cover 1 _ (flushed0_1 V c) fun i =>
    ⟨t0_3, (flush0_1 t0_3).mpr rfl, by
      show i ∈ ((View.whole main_v5).slice (win0_1.rect t0_3)).set
      rw [View.set_slice_whole, Rect.mem_set_unit]
      intro a
      have h0 : (i 0 : Nat) < 2 := (i 0).isLt
      have h1 : (i 1 : Nat) < 26 := (i 1).isLt
      match a with
      | ⟨0, _⟩ => show win0_1.index t0_3 0 * win0_1.size 0 ≤ (i 0 : Nat) ∧ (i 0 : Nat) < win0_1.index t0_3 0 * win0_1.size 0 + win0_1.xsize (grid0.coords t0_3) 0
                  rw [show win0_1.index t0_3 0 * win0_1.size 0 = 0 from by decide +kernel, show win0_1.xsize (grid0.coords t0_3) 0 = 2 from by decide +kernel]; omega
      | ⟨1, _⟩ => show win0_1.index t0_3 1 * win0_1.size 1 ≤ (i 1 : Nat) ∧ (i 1 : Nat) < win0_1.index t0_3 1 * win0_1.size 1 + win0_1.xsize (grid0.coords t0_3) 1
                  rw [show win0_1.index t0_3 1 * win0_1.size 1 = 0 from by decide +kernel, show win0_1.xsize (grid0.coords t0_3) 1 = 26 from by decide +kernel]; omega⟩

/-- Two points' result blocks share no row. -/
theorem disjoint1 (t t' : Fin cfg1.N) (_ : (cfg1.win 8).flush t = true) (_ : (cfg1.win 8).flush t' = true) (h : t ≠ t') :
    Disjoint ((cfg1.win 8).blk t).view.set ((cfg1.win 8).blk t').view.set :=
  (cfg1.win 8).disjoint_blk fun e => h (Fin.ext (by
    have e0 : win1_8.index t 0 = win1_8.index t' 0 := congrFun e 0
    rw [(index1_8 t).1, (index1_8 t').1] at e0
    exact e0))

/-- So row `4096 t + r` of the result is row `r` of what point `t` stored. -/
theorem final1 (c : Dev nD) (t : Fin cfg1.N) (r : Fin 4096) (j : Fin 128) (h : 4096 * t.val + r.val < 16384) :
    ((dat1 V c).arrAt 8 cfg1.N : Vec F S16384x128 .f32) (ix2 ⟨4096 * t.val + r.val, h⟩ j) = outAt V c t (ix2 r j) := by
  have e := congrFun ((dat1 V c).read_blk_arrAt_eq_flushed 8 disjoint1 cfg1.N t t.isLt (flush1_8 t)) (ix2 r j)
  rw [View.read_apply] at e
  obtain ⟨h0, h1⟩ := index1_8 t
  refine Eq.trans ?_ (e.trans ?_)
  · show ((dat1 V c).arrAt 8 cfg1.N : Vec F S16384x128 .f32) _ = ((dat1 V c).arrAt 8 cfg1.N : Vec F S16384x128 .f32) _
    congr 1
    funext d
    apply Fin.ext
    match d with
    | ⟨0, _⟩ => show 4096 * t.val + r.val = win1_8.index t 0 * 4096 + 1 * r.val; rw [h0]; omega
    | ⟨1, _⟩ => show j.val = win1_8.index t 1 * 128 + 1 * j.val; rw [h1]; omega
  · show (cfg1.win 8).cut (grid1.coords t) ((dat1 V c).after 8 t) (ix2 r j) = _
    rw [dat1_after8]
    rfl

end blocks

end Cert.KernelIdeal.Run
-- ==== Proof.RefStages.lean ====
/- The reference's result term cut into its stages: the time grid, the bin edges, the count of edges below an
   activation, the bin index, the gathered table rows, the two dense layers. -/
module

public import proofs.«01_k».proof.Proof.Gen.ReferenceIdeal.Run
public import Idealize.ShloMosaic.Lib.Pointwise

@[expose] public section

set_option maxRecDepth 16384

noncomputable section

namespace Cert.RefStages

open Cert.ReferenceIdeal Cert.ReferenceIdeal.Gen Idealize.ShloMosaic Idealize.ShloMosaic.TcCoe Idealize.SL.Sem

/-- The scalar `b` at every index of a shape. -/
abbrev fill {t : Shape} (h : S_.BroadcastsInDim t ![]) (b : BitVec 32) : FVec Ideal t .f32 :=
  broadcastInDim t ![] h (constant S_ .f32 b)

/-- The integer `b` at every index of a shape. -/
abbrev fillI {t : Shape} (h : S_.BroadcastsInDim t ![]) (b : BitVec 32) : IVec t 32 :=
  broadcastInDim t ![] h (constantI S_ 32 b)

/-- The step `k / 20` of the grid. -/
def steps : FVec Ideal S20 .f32 := Host.divf (sitofp .f32 (iotaInDim S20 32 0)) (fill bcast_S_S20 0x41A00000#32)

/-- The time grid of 21 points from 0 to 1. -/
def times : FVec Ideal S21 .f32 :=
  concatenate S21 0 [⟨S20, addf (mulf (broadcastInDim S20 ![0] bcast_S1_S20_0 (shapeCast S1 (id (constant (F := Ideal) S_ .f32 0x00000000#32)) shapeCasts_S_S1))
      (subf (fill bcast_S_S20 0x3F800000#32) steps)) (mulf (broadcastInDim S20 ![0] bcast_S1_S20_0 (shapeCast S1 (id (constant S_ .f32 0x3F800000#32)) shapeCasts_S_S1)) steps)⟩,
    ⟨S1, broadcastInDim S1 ![] bcast_S_S1 (id (constant S_ .f32 0x3F800000#32))⟩] concatenates_S20_S1_S21_d0

variable (A : FVec Ideal S16384x26 .f32) (T : FVec Ideal S26x20x32 .f32) (W1 : FVec Ideal S832x416 .f32)
  (b1 : FVec Ideal S416 .f32) (W2 : FVec Ideal S416x128 .f32) (b2 : FVec Ideal S128 .f32)

/-- The least activation of every field. -/
def least : FVec Ideal S26 .f32 :=
  Host.reduce FloatOps.minimumf A (constant S_ .f32 0x7F800000#32) reducesTo_S16384x26_S26_d0 h_S_

/-- The greatest activation of every field. -/
def greatest : FVec Ideal S26 .f32 :=
  Host.reduce FloatOps.maximumf A (constant S_ .f32 0xFF800000#32) reducesTo_S16384x26_S26_d0 h_S_

/-- The 21 bin edges of every field. -/
def edges : FVec Ideal S26x21 .f32 :=
  addf (broadcastInDim S26x21 ![0, 1] bcast_S26x1_S26x21_0_1 (broadcastInDim S26x1 ![0] bcast_S26_S26x1_0 (least A)))
    (mulf (broadcastInDim S26x21 ![0, 1] bcast_S26x1_S26x21_0_1 (broadcastInDim S26x1 ![0] bcast_S26_S26x1_0 (subf (greatest A) (least A))))
      (broadcastInDim S26x21 ![0, 1] bcast_S1x21_S26x21_0_1 (broadcastInDim S1x21 ![1] bcast_S21_S1x21_1 times)))

/-- Whether each edge of its field lies below an activation. -/
def passed : IVec S16384x26x21 1 :=
  cmpf .olt (broadcastInDim S16384x26x21 ![0, 1, 2] bcast_S1x26x21_S16384x26x21_0_1_2 (broadcastInDim S1x26x21 ![1, 2] bcast_S26x21_S1x26x21_1_2 (edges A)))
    (broadcastInDim S16384x26x21 ![0, 1, 2] bcast_S16384x26x1_S16384x26x21_0_1_2 (broadcastInDim S16384x26x1 ![0, 1] bcast_S16384x26_S16384x26x1_0_1 A))

/-- How many edges of its field lie below an activation. -/
def passedCount : IVec S16384x26 32 :=
  Host.reduce IntOp.addi (extui 32 (passed A) natLt_1_32) (constantI S_ 32 0#32) reducesTo_S16384x26x21_S16384x26_d2 h_S_

/-- The bin index of an activation. -/
def binIdx : IVec S16384x26 32 :=
  minsi (broadcastInDim S16384x26 ![] bcast_S_S16384x26 (id (constantI S_ 32 19#32)))
    (maxsi (broadcastInDim S16384x26 ![] bcast_S_S16384x26 (id (constantI S_ 32 0#32))) (subi (passedCount A) (fillI bcast_S_S16384x26 1#32)))

/-- The bin index with a negative one counted from the end. -/
def binIdx' : IVec S16384x26 32 :=
  select (cmpi .slt (binIdx A) (fillI bcast_S_S16384x26 0#32)) (addi (binIdx A) (fillI bcast_S_S16384x26 20#32)) (binIdx A)

/-- The field index as one row. -/
def fieldRow : IVec S1x26 32 := broadcastInDim S1x26 ![1] bcast_S26_S1x26_1 (iotaInDim S26 32 0)

/-- The field index with a negative one counted from the end. -/
def fieldIdx : IVec S1x26 32 :=
  select (cmpi .slt fieldRow (fillI bcast_S_S1x26 0#32)) (addi fieldRow (fillI bcast_S_S1x26 26#32)) fieldRow

/-- The index pairs (field, bin) the tables are gathered at. -/
def pairs : IVec S16384x26x2 32 :=
  concatenate S16384x26x2 2 [⟨S16384x26x1, broadcastInDim S16384x26x1 ![0, 1] bcast_S16384x26_S16384x26x1_0_1 (broadcastInDim S16384x26 ![0, 1] bcast_S1x26_S16384x26_0_1 fieldIdx)⟩,
    ⟨S16384x26x1, broadcastInDim S16384x26x1 ![0, 1] bcast_S16384x26_S16384x26x1_0_1 (binIdx' A)⟩] concatenates_S16384x26x1_S16384x26x1_S16384x26x2_d2

/-- The gathered table rows. -/
def picked : FVec Ideal S16384x26x32 .f32 :=
  Host.gather gather_S26x20x32_S16384x26x2_S16384x26x32_2_01_n_n_01_2_1132 T (pairs A)

/-- The gathered rows of every example, laid end to end. -/
def flat : FVec Ideal S16384x832 .f32 := shapeCast S16384x832 (picked A T) shapeCasts_S16384x26x32_S16384x832

/-- The first dense layer before its activation. -/
def pre1 : FVec Ideal S16384x416 .f32 :=
  addf (Host.dotGeneral dot_S16384x832_S832x416_S16384x416_1_0_0_1_n_n none (flat A T) W1)
    (broadcastInDim S16384x416 ![0, 1] bcast_S1x416_S16384x416_0_1 (broadcastInDim S1x416 ![1] bcast_S416_S1x416_1 b1))

/-- The first dense layer. -/
def hidden : FVec Ideal S16384x416 .f32 :=
  mulf (mulf (fill bcast_S_S16384x416 0x3F000000#32) (pre1 A T W1 b1))
    (addf (fill bcast_S_S16384x416 0x3F800000#32)
      (Host.erf (Host.divf (pre1 A T W1 b1) (broadcastInDim S16384x416 ![] bcast_S_S16384x416 (Host.sqrt (constant S_ .f32 0x40000000#32))))))

/-- The second dense layer before its activation. -/
def pre2 : FVec Ideal S16384x128 .f32 :=
  addf (Host.dotGeneral dot_S16384x416_S416x128_S16384x128_1_0_0_1_n_n none (hidden A T W1 b1) W2)
    (broadcastInDim S16384x128 ![0, 1] bcast_S1x128_S16384x128_0_1 (broadcastInDim S1x128 ![1] bcast_S128_S1x128_1 b2))

/-- The result. -/
def out : FVec Ideal S16384x128 .f32 :=
  mulf (mulf (fill bcast_S_S16384x128 0x3F000000#32) (pre2 A T W1 b1 W2 b2))
    (addf (fill bcast_S_S16384x128 0x3F800000#32)
      (Host.erf (Host.divf (pre2 A T W1 b1 W2 b2) (broadcastInDim S16384x128 ![] bcast_S_S16384x128 (Host.sqrt (constant S_ .f32 0x40000000#32))))))

/-- The reference's result is these stages of its arguments. -/
theorem result_eq (m : (ℓ : Loc nD τ sig) → Buf (Elt Ideal) ℓ) (c : Dev nD) :
    Cert.ReferenceIdeal.Value.res_out0 m c
      = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.Value.res_out0 Cert.ReferenceIdeal.Value.res_main_v65
  rfl

end Cert.RefStages

end
-- ==== Proof.RefValue.lean ====
/- The reference's stages read at an index: its result is the plain two-layer network of the gathered rows. -/
module

public import proofs.«01_k».proof.Proof.RefStages
public import proofs.«01_k».proof.Proof.Spec
public import proofs.«01_k».proof.Proof.Consts
public import Idealize.ShloMosaic.Lib.IndicatorCount
public import Idealize.ShloMosaic.Lib.WordArith
public import Idealize.ShloMosaic.Lib.WordCmp
public import Idealize.ShloMosaic.Lib.ValueIdxCore

@[expose] public section

set_option maxRecDepth 16384

noncomputable section

namespace Cert.RefStages

open Cert.ReferenceIdeal Cert.ReferenceIdeal.Gen Idealize.ShloMosaic Idealize.ShloMosaic.TcCoe Idealize.SL.Sem
open Cert.Spec

/-- The `k`-th step is `k / 20`. -/
theorem steps_apply (k : Fin 20) : steps (ix1 k) = (((k.val : ℝ) / 20 : ℝ) : EReal) := by
  pointwise [steps, fill, Cert.Consts.twenty]
  rw [Ideal.div_coe (by norm_num)]
  show (((BitVec.ofNat 32 k.val).toInt : ℝ) : EReal) * _ = _
  rw [WordArith.toInt_ofNat_small k.val (by omega), ← EReal.coe_mul]
  congr 1
  push_cast
  ring

/-- The `k`-th grid time is `k / 20`. -/
theorem times_apply (k : Fin 21) : times (ix1 k) = (((k.val : ℝ) / 20 : ℝ) : EReal) := by
  pointwise [times]
  split
  · rename_i h
    rw [steps_apply]
    simp only [id]
    pointwise
    rw [zero_mul, zero_add]
  · rename_i h
    obtain rfl : k = 20 := Fin.ext (show k.val = 20 by have := k.isLt; omega)
    simp only [id]
    pointwise
    norm_num

/-- The grid starts at zero, -/
theorem times_zero : times (ix1 (0 : Fin 21)) = 0 := by
  rw [times_apply]; norm_num

/-- and every later time is positive. -/
theorem times_pos (k : Fin 20) : 0 < times (ix1 k.succ) := by
  rw [times_apply]
  have h : (0 : ℝ) < ((k.val + 1 : ℕ) : ℝ) / 20 := by positivity
  exact_mod_cast h

variable (A : FVec Ideal S16384x26 .f32) (T : FVec Ideal S26x20x32 .f32) (W1 : FVec Ideal S832x416 .f32)
  (b1 : FVec Ideal S416 .f32) (W2 : FVec Ideal S416x128 .f32) (b2 : FVec Ideal S128 .f32)

/-- The least activation of a field. -/
theorem least_apply (a : Fin 26) : least A (ix1 a) = ⨅ r : Fin 16384, A (ix2 r a) := by
  pointwise [least, Cert.Consts.posInf]
  exact fold_min_top _

/-- The greatest activation of a field. -/
theorem greatest_apply (a : Fin 26) : greatest A (ix1 a) = ⨆ r : Fin 16384, A (ix2 r a) := by
  pointwise [greatest, Cert.Consts.negInf]
  exact fold_max_bot _

/-- The edges of a field are its boundaries at the grid times. -/
theorem edges_apply (a : Fin 26) (k : Fin 21) : edges A (ix2 a k)
    = thr (least A (ix1 a)) (greatest A (ix1 a) - least A (ix1 a)) (times (ix1 k)) := by
  pointwise [edges, thr]

/-- An edge is passed when it lies below the activation. -/
theorem passed_apply (i : Fin 16384) (a : Fin 26) (k : Fin 21) : passed A (ix3 i a k)
    = BitVec.ofBool (decide (edges A (ix2 a k) < A (ix2 i a))) := by
  pointwise [passed]

/-- The count of passed edges. -/
theorem passedCount_apply (i : Fin 16384) (a : Fin 26) : passedCount A (ix2 i a)
    = BitVec.ofNat 32 (Finset.univ.filter fun k : Fin 21 => edges A (ix2 a k) < A (ix2 i a)).card := by
  pointwise [passedCount]
  rw [IndicatorCount.fold_addi_setWidth_eq_card]
  congr 2
  ext k
  simp only [Finset.mem_filter, passed_apply, WordCmp.ofBool_decide_eq_one_iff]

/-- The bin the specification gives an activation. -/
def binAt (i : Fin 16384) (a : Fin 26) : Fin 20 :=
  bin (fun k => times (ix1 k)) (⨅ r : Fin 16384, A (ix2 r a)) ((⨆ r : Fin 16384, A (ix2 r a)) - ⨅ r : Fin 16384, A (ix2 r a)) (A (ix2 i a))

/-- Taking one off a count of at most 21 and clipping to 0 … 19. -/
theorem clip_word : ∀ n : Fin 22, IntOp.minsi 19#32 (IntOp.maxsi 0#32 (IntOp.subi (BitVec.ofNat 32 n.val) 1#32))
    = BitVec.ofNat 32 (min (n.val - 1) 19) := by decide

/-- The bin index is the specification's bin. -/
theorem binIdx_apply (i : Fin 16384) (a : Fin 26) : binIdx A (ix2 i a) = BitVec.ofNat 32 (binAt A i a).val := by
  have e : (binAt A i a).val
      = min ((Finset.univ.filter fun k : Fin 21 => edges A (ix2 a k) < A (ix2 i a)).card - 1) 19 := by
    simp only [edges_apply, least_apply, greatest_apply]
    exact (bin_eq (fun k => times (ix1 k)) times_zero times_pos _ _ _ (iInf_le (fun r : Fin 16384 => A (ix2 r a)) i)
      ((iInf_le (fun r : Fin 16384 => A (ix2 r a)) i).trans (le_iSup (fun r : Fin 16384 => A (ix2 r a)) i))).symm
  have hle : (Finset.univ.filter fun k : Fin 21 => edges A (ix2 a k) < A (ix2 i a)).card < 22 :=
    Nat.lt_succ_of_le ((Finset.card_le_univ _).trans (by simp))
  rw [e]
  refine Eq.trans ?_ (clip_word ⟨_, hle⟩)
  rw [← passedCount_apply]
  pointwise [binIdx, fillI]
  simp only [id]
  pointwise

/-- A word that is no negative number is kept by the wrap-around of negative indices. -/
theorem wrap_keeps (n : ℕ) (h : n < 2 ^ 31) (y : BitVec 32) :
    Scalar.select (IntOp.cmpi .slt (BitVec.ofNat 32 n) 0#32) y (BitVec.ofNat 32 n) = BitVec.ofNat 32 n := by
  rw [show IntOp.cmpi .slt (BitVec.ofNat 32 n) 0#32 = 0#1 from by
    rw [show (0#32 : BitVec 32) = BitVec.ofNat 32 0 from rfl, WordCmp.cmpi_slt_ofNat h (by decide)]
    simp]
  rfl

/-- The bin index, negative ones wrapped: none is. -/
theorem binIdx'_apply (i : Fin 16384) (a : Fin 26) : binIdx' A (ix2 i a) = BitVec.ofNat 32 (binAt A i a).val := by
  pointwise [binIdx', fillI, binIdx_apply]
  exact wrap_keeps _ (by have := (binAt A i a).isLt; omega) _

/-- The field index, negative ones wrapped: none is. -/
theorem fieldIdx_apply (z : Fin 1) (a : Fin 26) : fieldIdx (ix2 z a) = BitVec.ofNat 32 a.val := by
  pointwise [fieldIdx, fieldRow, fillI]
  exact wrap_keeps _ (by have := a.isLt; omega) _

/-- The first of an index pair is the field, -/
theorem pairs_apply0 (i : Fin 16384) (a : Fin 26) : pairs A (ix3 i a 0) = BitVec.ofNat 32 a.val := by
  pointwise [pairs]
  exact fieldIdx_apply 0 a

/-- the second the bin. -/
theorem pairs_apply1 (i : Fin 16384) (a : Fin 26) : pairs A (ix3 i a 1) = BitVec.ofNat 32 (binAt A i a).val := by
  pointwise [pairs]
  exact binIdx'_apply A i a

/-- The gather of whole rows at pairs of indices, read at an index: the row at the pair, each index read signed and
    clamped into its axis. -/
theorem gather_pairs_apply (idx : IVec S16384x26x2 32) (i : Fin 16384) (a : Fin 26) (l : Fin 32) :
    Host.gather gather_S26x20x32_S16384x26x2_S16384x26x32_2_01_n_n_01_2_1132 T idx (ix3 i a l)
      = T (ix3 ⟨min (idx (ix3 i a 0)).toInt.toNat 25, by omega⟩ ⟨min (idx (ix3 i a 1)).toInt.toNat 19, by omega⟩ l) := by
  have si : ∀ b : Fin 2, gather_S26x20x32_S16384x26x2_S16384x26x32_2_01_n_n_01_2_1132.siIdx (ix3 i a l) b = ix3 i a b := by
    intro b
    funext x; refine Fin.ext ?_
    match x with
    | ⟨0, _⟩ => rfl
    | ⟨1, _⟩ => rfl
    | ⟨2, _⟩ => rfl
  unfold Host.gather
  congr 1
  funext x
  refine Fin.ext ?_
  show gather_S26x20x32_S16384x26x2_S16384x26x32_2_01_n_n_01_2_1132.start (ix3 i a l) idx x
      + gather_S26x20x32_S16384x26x2_S16384x26x32_2_01_n_n_01_2_1132.batchCoord (ix3 i a l) x
      + gather_S26x20x32_S16384x26x2_S16384x26x32_2_01_n_n_01_2_1132.offCoord (ix3 i a l) x = _
  rw [GatherDims.batchCoord_eq_zero _ _ _ List.not_mem_nil]
  have hx : x = 0 ∨ x = 1 ∨ x = 2 := by
    match x with
    | ⟨0, _⟩ => exact .inl rfl
    | ⟨1, _⟩ => exact .inr (.inl rfl)
    | ⟨2, _⟩ => exact .inr (.inr rfl)
  rcases hx with rfl | rfl | rfl
  · rw [GatherDims.offCoord_eq_zero _ _ _ (fun h => ((GatherDims.mem_sKept _ _).mp h).1 (show (0 : Fin 3) ∈ ([0, 1] : List (Fin 3)) by decide))]
    unfold GatherDims.start
    rw [dif_pos (show (0 : Fin 3) ∈ gather_S26x20x32_S16384x26x2_S16384x26x32_2_01_n_n_01_2_1132.startIndexMap from (by decide : (0 : Fin 3) ∈ ([0, 1] : List (Fin 3))))]
    exact congrArg (fun j => min (idx j).toInt.toNat 25) (si 0)
  · rw [GatherDims.offCoord_eq_zero _ _ _ (fun h => ((GatherDims.mem_sKept _ _).mp h).1 (show (1 : Fin 3) ∈ ([0, 1] : List (Fin 3)) by decide))]
    unfold GatherDims.start
    rw [dif_pos (show (1 : Fin 3) ∈ gather_S26x20x32_S16384x26x2_S16384x26x32_2_01_n_n_01_2_1132.startIndexMap from (by decide : (1 : Fin 3) ∈ ([0, 1] : List (Fin 3))))]
    exact congrArg (fun j => min (idx j).toInt.toNat 19) (si 1)
  · unfold GatherDims.start
    rw [dif_neg (show (2 : Fin 3) ∉ gather_S26x20x32_S16384x26x2_S16384x26x32_2_01_n_n_01_2_1132.startIndexMap from (by decide : (2 : Fin 3) ∉ ([0, 1] : List (Fin 3))))]
    simp only [Nat.zero_add]
    rfl

/-- The gathered row of a field is the table row of the activation's bin. -/
theorem picked_apply (i : Fin 16384) (a : Fin 26) (l : Fin 32) : picked A T (ix3 i a l) = T (ix3 a (binAt A i a) l) := by
  unfold picked
  rw [gather_pairs_apply]
  have ha := a.isLt
  have hb := (binAt A i a).isLt
  refine congrArg₂ (fun x y => T (ix3 x y l)) (Fin.ext ?_) (Fin.ext ?_)
  · simp only [pairs_apply0, WordArith.toInt_ofNat_small a.val (by omega), Int.toNat_natCast]; omega
  · simp only [pairs_apply1, WordArith.toInt_ofNat_small (binAt A i a).val (by omega), Int.toNat_natCast]; omega

/-- The gathered rows laid end to end. -/
theorem flat_apply (i : Fin 16384) (c : Fin 832) : flat A T (ix2 i c)
    = T (ix3 ⟨c.val / 32, by omega⟩ (binAt A i ⟨c.val / 32, by omega⟩) ⟨c.val % 32, Nat.mod_lt _ (by decide)⟩) := by
  refine Eq.trans ?_ (picked_apply A T i _ _)
  pointwise [flat]

/-- The gaussian error unit, as both programs spell it up to the constant's place. -/
def gelu (x : EReal) : EReal := ((1 / 2 : ℝ) : EReal) * x * (1 + Ideal.erf (x * (((Real.sqrt 2)⁻¹ : ℝ) : EReal)))

/-- Dividing by the root of two is multiplying by its inverse. -/
theorem div_sqrt_two (x : EReal) : Ideal.div x (Ideal.sqrt ((2 : ℝ) : EReal)) = x * (((Real.sqrt 2)⁻¹ : ℝ) : EReal) := by
  rw [Ideal.sqrt_coe, if_neg (by norm_num), Ideal.div_coe (by positivity), one_div]

/-- The first layer's sum. -/
def sum1 (i : Fin 16384) (h : Fin 416) : EReal :=
  (∑ c : Fin 832, T (ix3 ⟨c.val / 32, by omega⟩ (binAt A i ⟨c.val / 32, by omega⟩) ⟨c.val % 32, Nat.mod_lt _ (by decide)⟩) * W1 (ix2 c h)) + b1 (ix1 h)

/-- The first layer before its activation. -/
theorem pre1_apply (i : Fin 16384) (h : Fin 416) : pre1 A T W1 b1 (ix2 i h) = sum1 A T W1 b1 i h := by
  pointwise [pre1, dot_S16384x832_S832x416_S16384x416_1_0_0_1_n_n]
  simp only [flat_apply]
  rfl

/-- The first layer. -/
theorem hidden_apply (i : Fin 16384) (h : Fin 416) : hidden A T W1 b1 (ix2 i h) = gelu (sum1 A T W1 b1 i h) := by
  pointwise [hidden, fill, Cert.Consts.half, Cert.Consts.two]
  rw [pre1_apply, div_sqrt_two]; rfl

/-- The network at an example and an output column. -/
def net (i : Fin 16384) (j : Fin 128) : EReal :=
  gelu ((∑ h : Fin 416, gelu (sum1 A T W1 b1 i h) * W2 (ix2 h j)) + b2 (ix1 j))

/-- The second layer before its activation. -/
theorem pre2_apply (i : Fin 16384) (j : Fin 128) : pre2 A T W1 b1 W2 b2 (ix2 i j)
    = (∑ h : Fin 416, gelu (sum1 A T W1 b1 i h) * W2 (ix2 h j)) + b2 (ix1 j) := by
  pointwise [pre2, dot_S16384x416_S416x128_S16384x128_1_0_0_1_n_n]
  simp only [hidden_apply]

/-- The reference's result is the network. -/
theorem out_apply (i : Fin 16384) (j : Fin 128) : out A T W1 b1 W2 b2 (ix2 i j) = net A T W1 b1 W2 b2 i j := by
  pointwise [out, fill, Cert.Consts.half, Cert.Consts.two]
  rw [pre2_apply, div_sqrt_two]; rfl

end Cert.RefStages

end
-- ==== Proof.KerHost.lean ====
/- What the kernel's host operations leave, and the values of the two regions' arrays over the extended reals. -/
module

public import proofs.«01_k».proof.Proof.KerArrays
public import proofs.«01_k».proof.Proof.RefValue
public import Idealize.ShloMosaic.Lib.StableHlo.Run

@[expose] public section

set_option maxRecDepth 16384

noncomputable section

namespace Cert.KernelIdeal.Run

open Cert.KernelIdeal.Gen Cert.Spec
open Idealize.ShloMosaic Idealize.ShloMosaic.TcCoe Idealize.SL.Sem Idealize.ShloMosaic.StableHlo

variable (m : (ℓ : Loc nD τ sig) → Buf (Elt Ideal) ℓ) (c : Dev nD)

/-- The activations as launched. -/
abbrev argA : Vec Ideal S16384x26 .f32 := m ((c.tc : Thread nD τ).loc main_arg0)
/-- The tables as launched. -/
abbrev argT : Vec Ideal S26x20x32 .f32 := m ((c.tc : Thread nD τ).loc main_arg1)
/-- The first layer's weights as launched. -/
abbrev argW1 : Vec Ideal S832x416 .f32 := m ((c.tc : Thread nD τ).loc main_arg2)
/-- The first layer's biases as launched. -/
abbrev argB1 : Vec Ideal S416 .f32 := m ((c.tc : Thread nD τ).loc main_arg3)
/-- The second layer's weights as launched. -/
abbrev argW2 : Vec Ideal S416x128 .f32 := m ((c.tc : Thread nD τ).loc main_arg4)
/-- The second layer's biases as launched. -/
abbrev argB2 : Vec Ideal S128 .f32 := m ((c.tc : Thread nD τ).loc main_arg5)

/-- A buffer no host operation writes is as launched when the first region is entered. -/
theorem V3_arg (r : Ref sig .tc) (h2 : r ∉ hostOps0_2_W) (h1 : r ∉ hostOps0_1_W) (h0 : r ∉ hostOps0_W) :
    V3 m c r = m ((c.tc : Thread nD τ).loc r) :=
  (V3_of m c r h2).trans ((V2_of m c r h1).trans (V1_of m c r h0))

/-- The host's time grid is the reference's. -/
theorem host_times : (V2 m c main_v1 : Vec Ideal S21 .f32) = Cert.RefStages.times := by
  simp only [V2, V1, hostOps0_1, hostOps0, TRef.binary, TRef.nullary, TRef.reshape, TRef.unary, TRef.toBuf, TRef.ofBuf, cast_eq]
  after_results_simp <;> rfl

/-- The time grid as one row. -/
theorem host_v2 (z : Fin 1) (k : Fin 21) : (V3 m c main_v2 : Vec Ideal S1x21 .f32) (ix2 z k) = Cert.RefStages.times (ix1 k) := by
  have e : (V3 m c main_v2 : Vec Ideal S1x21 .f32) = shapeCast S1x21 (V2 m c main_v1 : Vec Ideal S21 .f32) shapeCasts_S21_S1x21 := by
    simp only [V3, hostOps0_2]
    after_results_simp <;> rfl
  rw [e, host_times]
  pointwise

/-- The tables' rows end to end. -/
theorem host_v0 (q : Fin 520) (l : Fin 32) : (V3 m c main_v0 : Vec Ideal S520x32 .f32) (ix2 q l)
    = argT m c (ix3 ⟨q.val / 20, by omega⟩ ⟨q.val % 20, Nat.mod_lt _ (by decide)⟩ l) := by
  have e : (V3 m c main_v0 : Vec Ideal S520x32 .f32) = shapeCast S520x32 (argT m c) shapeCasts_S26x20x32_S520x32 := by
    refine (V3_of m c main_v0 (by decide)).trans ((V2_of m c main_v0 (by decide)).trans ?_)
    simp only [V1, hostOps0]
    after_results_simp <;> rfl
  rw [e]
  pointwise

/-- The first layer's biases as one row. -/
theorem host_v3 (z : Fin 1) (h : Fin 416) : (V3 m c main_v3 : Vec Ideal S1x416 .f32) (ix2 z h) = argB1 m c (ix1 h) := by
  have e : (V3 m c main_v3 : Vec Ideal S1x416 .f32) = shapeCast S1x416 (V2 m c main_arg3 : Vec Ideal S416 .f32) shapeCasts_S416_S1x416 := by
    simp only [V3, hostOps0_2]
    after_results_simp <;> rfl
  rw [e, show (V2 m c main_arg3 : Vec Ideal S416 .f32) = argB1 m c from (V2_of m c main_arg3 (by decide)).trans (V1_of m c main_arg3 (by decide))]
  pointwise

/-- The second layer's biases as one row. -/
theorem host_v4 (z : Fin 1) (j : Fin 128) : (V3 m c main_v4 : Vec Ideal S1x128 .f32) (ix2 z j) = argB2 m c (ix1 j) := by
  have e : (V3 m c main_v4 : Vec Ideal S1x128 .f32) = shapeCast S1x128 (V2 m c main_arg5 : Vec Ideal S128 .f32) shapeCasts_S128_S1x128 := by
    simp only [V3, hostOps0_2]
    after_results_simp <;> rfl
  rw [e, show (V2 m c main_arg5 : Vec Ideal S128 .f32) = argB2 m c from (V2_of m c main_arg5 (by decide)).trans (V1_of m c main_arg5 (by decide))]
  pointwise

end Cert.KernelIdeal.Run
-- ==== Proof.KerValue.lean ====
/- The kernel's result at every index: the same two-layer network the reference computes. -/
module

public import proofs.«01_k».proof.Proof.KerHost

@[expose] public section

set_option maxRecDepth 16384

noncomputable section

namespace Cert.KernelIdeal.Run

open Cert.KernelIdeal.Gen Cert.Spec
open Idealize.ShloMosaic Idealize.ShloMosaic.TcCoe Idealize.SL.Sem

variable (m : (ℓ : Loc nD τ sig) → Buf (Elt Ideal) ℓ) (c : Dev nD)

/-! ## The minima -/

/-- The minima after the last point are the least over the four blocks' minima. -/
theorem minima_blocks (z : Fin 2) (a : Fin 26) (g : Fin 4 → EReal)
    (hg : ∀ t : Fin cfg0.N, k0_pay1 (blk0 (V3 m) c 0 t : Vec Ideal S4096x26 .f32) (ix2 z a) = g ⟨t.val, lt0 t⟩) :
    (minima m c : Vec Ideal S2x26 .f32) (ix2 z a) = min (g 3) (min (g 2) (min (g 1) (g 0))) := by
  rw [show (minima m c : Vec Ideal S2x26 .f32) = acc (V3 m) c 3 t0_3.isLt from final0 (V3 m) c]
  simp only [acc]
  rw [minmax_later_apply, minmax_later_apply, minmax_later_apply, hg, hg, hg, hg]
  show min (min (min (g 0) (g 1)) (g 2)) (g 3) = _
  rw [min_comm, min_comm (min (g 0) (g 1)), min_comm (g 0)]

/-- Row `r` of block `t` of the activations. -/
theorem row0 (t : Fin cfg0.N) (r : Fin 4096) (a : Fin 26) : (blk0 (V3 m) c 0 t : Vec Ideal S4096x26 .f32) (ix2 r a)
    = argA m c (ix2 ⟨4096 * t.val + r.val, by have := lt0 t; omega⟩ a) := by
  rw [blk0_apply (V3 m) c t r a (by have := lt0 t; omega)]
  exact congrFun (V3_arg m c main_arg0 (by decide) (by decide) (by decide)) _

/-- The first row of the minima: each field's least activation. -/
theorem minima_apply0 (a : Fin 26) : (minima m c : Vec Ideal S2x26 .f32) (ix2 0 a) = ⨅ r : Fin 16384, argA m c (ix2 r a) := by
  rw [minima_blocks m c 0 a (fun b => ⨅ r : Fin 4096, argA m c (ix2 ⟨4096 * b.val + r.val, by omega⟩ a))
    (fun t => by rw [minmax_apply0]; simp only [row0])]
  exact iInf_blocks (fun r => argA m c (ix2 r a)) (fun b r => argA m c (ix2 ⟨4096 * b.val + r.val, by omega⟩ a)) fun b r hr => rfl

/-- The second row: each field's least negated activation. -/
theorem minima_apply1 (a : Fin 26) : (minima m c : Vec Ideal S2x26 .f32) (ix2 1 a) = ⨅ r : Fin 16384, -argA m c (ix2 r a) := by
  rw [minima_blocks m c 1 a (fun b => ⨅ r : Fin 4096, -argA m c (ix2 ⟨4096 * b.val + r.val, by omega⟩ a))
    (fun t => by rw [minmax_apply1]; simp only [row0])]
  exact iInf_blocks (fun r => -argA m c (ix2 r a)) (fun b r => -argA m c (ix2 ⟨4096 * b.val + r.val, by omega⟩ a)) fun b r hr => rfl

/-! ## The second region's inputs -/

/-- A host buffer other than the minima is, when the second region is entered, as when the first was. -/
theorem mid (r : Ref sig .tc) (h : (Proc.devRef .tc r : DevRef τ sig) ≠ Proc.devRef .tc main_v5) : Vmid m c r = V3 m c r := Vmid_of m c _ h

/-- The minima's window holds the minima. -/
theorem in1 (t : Fin cfg1.N) : (blk1 (Vmid m) c 1 t : Vec Ideal S2x26 .f32) = minima m c :=
  (blk1_1 (Vmid m) c t).trans (Function.update_self (Proc.devRef .tc main_v5) (minima m c) (V3 m c))

/-- The time grid's window, read. -/
theorem in0 (t : Fin cfg1.N) (z : Fin 1) (k : Fin 21) : (blk1 (Vmid m) c 0 t : Vec Ideal S1x21 .f32) (ix2 z k) = Cert.RefStages.times (ix1 k) := by
  rw [blk1_0, mid m c main_v2 (by decide), host_v2]

/-- The activations' window, read. -/
theorem in2 (t : Fin cfg1.N) (r : Fin 4096) (a : Fin 26) (h : 4096 * t.val + r.val < 16384) :
    (blk1 (Vmid m) c 2 t : Vec Ideal S4096x26 .f32) (ix2 r a) = argA m c (ix2 ⟨4096 * t.val + r.val, h⟩ a) := by
  rw [blk1_apply2 (Vmid m) c t r a h, mid m c main_arg0 (by decide)]
  exact congrFun (V3_arg m c main_arg0 (by decide) (by decide) (by decide)) _

/-- The tables' window, read. -/
theorem in3 (t : Fin cfg1.N) (q : Fin 520) (l : Fin 32) : (blk1 (Vmid m) c 3 t : Vec Ideal S520x32 .f32) (ix2 q l)
    = argT m c (ix3 ⟨q.val / 20, by omega⟩ ⟨q.val % 20, Nat.mod_lt _ (by decide)⟩ l) := by
  rw [blk1_3, mid m c main_v0 (by decide), host_v0]

/-- The first layer's weights' window. -/
theorem in4 (t : Fin cfg1.N) : (blk1 (Vmid m) c 4 t : Vec Ideal S832x416 .f32) = argW1 m c := by
  rw [blk1_4, mid m c main_arg2 (by decide)]
  exact V3_arg m c main_arg2 (by decide) (by decide) (by decide)

/-- The first layer's biases' window, read. -/
theorem in5 (t : Fin cfg1.N) (z : Fin 1) (h : Fin 416) : (blk1 (Vmid m) c 5 t : Vec Ideal S1x416 .f32) (ix2 z h) = argB1 m c (ix1 h) := by
  rw [blk1_5, mid m c main_v3 (by decide), host_v3]

/-- The second layer's weights' window. -/
theorem in6 (t : Fin cfg1.N) : (blk1 (Vmid m) c 6 t : Vec Ideal S416x128 .f32) = argW2 m c := by
  rw [blk1_6, mid m c main_arg4 (by decide)]
  exact V3_arg m c main_arg4 (by decide) (by decide) (by decide)

/-- The second layer's biases' window, read. -/
theorem in7 (t : Fin cfg1.N) (z : Fin 1) (j : Fin 128) : (blk1 (Vmid m) c 7 t : Vec Ideal S1x128 .f32) (ix2 z j) = argB2 m c (ix1 j) := by
  rw [blk1_7, mid m c main_v4 (by decide), host_v4]

/-! ## The result -/

/-- The kernel's bin is the reference's. -/
theorem kbin_eq (t : Fin cfg1.N) (r : Fin 4096) (a : Fin 26) (h : 4096 * t.val + r.val < 16384) :
    kbin (blk1 (Vmid m) c 0 t) (blk1 (Vmid m) c 1 t) (blk1 (Vmid m) c 2 t) r a
      = Cert.RefStages.binAt (argA m c) ⟨4096 * t.val + r.val, h⟩ a := by
  unfold kbin Cert.RefStages.binAt
  rw [in1, minima_apply0, minima_apply1, zero_sub_eq, neg_iInf_neg, in2 m c t r a h]
  simp only [in0]

/-- The kernel's first layer is the reference's: the marked table rows carried through the weights are the gathered rows
    carried through them. -/
theorem ksum1_eq (t : Fin cfg1.N) (r : Fin 4096) (k : Fin 416) (h : 4096 * t.val + r.val < 16384) :
    ksum1 (blk1 (Vmid m) c 0 t) (blk1 (Vmid m) c 1 t) (blk1 (Vmid m) c 2 t) (blk1 (Vmid m) c 5 t) (mAt (Vmid m) c) r k
      = Cert.RefStages.sum1 (argA m c) (argT m c) (argW1 m c) (argB1 m c) ⟨4096 * t.val + r.val, h⟩ k := by
  unfold ksum1 Cert.RefStages.sum1 mAt
  rw [in5]
  refine congrArg (· + argB1 m c (ix1 k)) ?_
  simp only [mVal_apply, in4, kbin_eq m c t r _ h]
  refine (onehot_collapse (Cert.RefStages.binAt (argA m c) ⟨4096 * t.val + r.val, h⟩) (fun q l => (blk1 (Vmid m) c 3 t1_0 : Vec Ideal S520x32 .f32) (ix2 q l))
    (fun d => argW1 m c (ix2 d k))).trans (Finset.sum_congr rfl fun d _ => ?_)
  simp only [in3]
  have hb := (Cert.RefStages.binAt (argA m c) ⟨4096 * t.val + r.val, h⟩ ⟨d.val / 32, by omega⟩).isLt
  refine congrArg (· * argW1 m c (ix2 d k)) (congrArg₂ (fun x y => argT m c (ix3 x y ⟨d.val % 32, Nat.mod_lt _ (by decide)⟩)) (Fin.ext ?_) (Fin.ext ?_))
  · simp only [rowOf]; omega
  · simp only [rowOf]; omega

/-- The kernel's result at row `r` of block `t` and an output column is the network there. -/
theorem result_block (t : Fin cfg1.N) (r : Fin 4096) (j : Fin 128) (h : 4096 * t.val + r.val < 16384) :
    (result m c : Vec Ideal S16384x128 .f32) (ix2 ⟨4096 * t.val + r.val, h⟩ j)
      = Cert.RefStages.net (argA m c) (argT m c) (argW1 m c) (argB1 m c) (argW2 m c) (argB2 m c) ⟨4096 * t.val + r.val, h⟩ j := by
  refine (final1 (Vmid m) c t r j h).trans ?_
  unfold outAt Cert.RefStages.net
  rw [outVal_apply, in7, in6]
  simp only [ksum1_eq m c t r _ h]
  rfl

/-- The kernel's result at an example and an output column is the network there. -/
theorem result_apply (i : Fin 16384) (j : Fin 128) : (result m c : Vec Ideal S16384x128 .f32) (ix2 i j)
    = Cert.RefStages.net (argA m c) (argT m c) (argW1 m c) (argB1 m c) (argW2 m c) (argB2 m c) i j := by
  have h := result_block m c ⟨i.val / 4096, Nat.lt_of_lt_of_eq (by omega : i.val / 4096 < 4) N_1.symm⟩
    ⟨i.val % 4096, Nat.mod_lt _ (by decide)⟩ j (by simp only; omega)
  rwa [show (⟨4096 * (i.val / 4096) + i.val % 4096, by omega⟩ : Fin 16384) = i from Fin.ext (Nat.div_add_mod i.val 4096)] at h

end Cert.KernelIdeal.Run
-- ==== Proof.Algebraic.lean ====
/- The idealized kernel and the reference leave the same array. -/
module

public import proofs.«01_k».proof.Defs
public import proofs.«01_k».proof.Proof.KerValue
public import proofs.«01_k».proof.Proof.Gen.ReferenceIdeal.Run

@[expose] public section

noncomputable section

open Idealize.ShloMosaic Idealize.ShloMosaic.TcCoe Idealize.SL.Sem

namespace Cert.Proof

/-- From equal arguments the idealized kernel's result is the reference's, at every index. -/
theorem results_agree (m : (ℓ : Loc Cert.KernelIdeal.nD Cert.KernelIdeal.τ Cert.KernelIdeal.sig) → Buf (Elt Ideal) ℓ) (c : Dev Cert.KernelIdeal.nD) :
    Cert.RefStages.out (Cert.KernelIdeal.Run.argA m c) (Cert.KernelIdeal.Run.argT m c) (Cert.KernelIdeal.Run.argW1 m c)
        (Cert.KernelIdeal.Run.argB1 m c) (Cert.KernelIdeal.Run.argW2 m c) (Cert.KernelIdeal.Run.argB2 m c)
      = (Cert.KernelIdeal.Run.result m c : Vec Ideal Cert.KernelIdeal.S16384x128 .f32) := by
  funext x
  obtain ⟨i, j, rfl⟩ : ∃ (i : Fin 16384) (j : Fin 128), x = ix2 i j :=
    ⟨x 0, x 1, funext fun a => match a with | ⟨0, _⟩ => rfl | ⟨1, _⟩ => rfl⟩
  exact (Cert.RefStages.out_apply _ _ _ _ _ _ i j).trans (Cert.KernelIdeal.Run.result_apply m c i j).symm

/-- The idealized kernel and the reference, run from equal arguments, end with equal results. -/
theorem algebraic : Cert.algebraic_KernelIdeal_ReferenceIdeal := by
  intro m ρ m' ρ' _ hagree
  refine ⟨fun c => Cert.KernelIdeal.Run.result m c,
    (θ_run Cert.KernelIdeal.defs _ _).mono (fun _ h => h.1) (Cert.KernelIdeal.Run.run_value m ρ), ?_⟩
  refine (θ_run Cert.ReferenceIdeal.defs _ _).mono (fun _ h c => ⟨(h c).1.trans ?_, (h c).2⟩) (Cert.ReferenceIdeal.Value.run (F := Ideal) m' ρ')
  obtain ⟨h0, h1, h2, h3, h4, h5⟩ := hagree c
  refine (Cert.RefStages.result_eq m' c).trans ?_
  rw [h0, h1, h2, h3, h4, h5]
  exact results_agree m c

end Cert.Proof

end
-- ==== Proof.lean ====
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, frame_p, frame_pi, frame_ri, preserves, algebraic⟩

end Cert.Proof

end
